-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.BufferStatement Cert.KernelIdeal.S16x256x2x128 Cert.KernelIdeal.S16x256x1x128
  ∧ IdealRules.bf16_pair.Statement Cert.KernelIdeal.S256x2048 Cert.KernelIdeal.S128x2048
  ∧ IdealRules.bf16_pair.PackStatement Cert.KernelIdeal.S256x128
  ∧ IdealRules.bf16_pair.Statement Cert.KernelIdeal.S1x256x2x128 Cert.KernelIdeal.S1x256x1x128
  ∧ IdealRules.bf16_pair.Statement Cert.KernelIdeal.S1x1x2x128 Cert.KernelIdeal.S1x1x1x128
  ∧ IdealRules.bf16_pair.Statement Cert.KernelIdeal.S16x512 Cert.KernelIdeal.S8x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x128x2048 : Shape := ⟨3, ![1, 128, 2048]⟩
abbrev S1x128x256 : Shape := ⟨3, ![1, 128, 256]⟩
abbrev S2 : Shape := ⟨1, ![2]⟩
abbrev S2048x14336 : Shape := ⟨2, ![2048, 14336]⟩
abbrev S256x14336 : Shape := ⟨2, ![256, 14336]⟩
abbrev S1 : Shape := ⟨1, ![1]⟩
abbrev S128x2048 : Shape := ⟨2, ![128, 2048]⟩
abbrev S128x256 : Shape := ⟨2, ![128, 256]⟩
abbrev S128x14336 : Shape := ⟨2, ![128, 14336]⟩
abbrev S2048x2048 : Shape := ⟨2, ![2048, 2048]⟩
abbrev S256x2048 : Shape := ⟨2, ![256, 2048]⟩
abbrev S128x4096 : Shape := ⟨2, ![128, 4096]⟩
abbrev S16x256x128 : Shape := ⟨3, ![16, 256, 128]⟩
abbrev S256x256 : Shape := ⟨2, ![256, 256]⟩
abbrev S128x128 : Shape := ⟨2, ![128, 128]⟩
abbrev S256x128 : Shape := ⟨2, ![256, 128]⟩
abbrev S1x256x128 : Shape := ⟨3, ![1, 256, 128]⟩
abbrev S128x512 : Shape := ⟨2, ![128, 512]⟩
abbrev S256x512 : Shape := ⟨2, ![256, 512]⟩
abbrev S1x1x128 : Shape := ⟨3, ![1, 1, 128]⟩
abbrev S1x128 : Shape := ⟨2, ![1, 128]⟩
abbrev S8x128 : Shape := ⟨2, ![8, 128]⟩
abbrev S8x512 : Shape := ⟨2, ![8, 512]⟩
abbrev S16x512 : Shape := ⟨2, ![16, 512]⟩
abbrev S64x512 : Shape := ⟨2, ![64, 512]⟩

abbrev nBuf : Space → Nat
  | .hbm => 9
  | .vmem => 10
  | .smem => 2
  | _ => 0

abbrev bufTy : (tb : Table) → Fin (tcTables nBuf tb) → BufTy
  | .hbm, ⟨0, _⟩ => ⟨S1x128x2048, .i8⟩
  | .hbm, ⟨1, _⟩ => ⟨S1x128x256, .fp8e4m3⟩
  | .hbm, ⟨2, _⟩ => ⟨S2, .f32⟩
  | .hbm, ⟨3, _⟩ => ⟨S2048x14336, .i8⟩
  | .hbm, ⟨4, _⟩ => ⟨S256x14336, .fp8e4m3⟩
  | .hbm, ⟨5, _⟩ => ⟨S1, .f32⟩
  | .hbm, ⟨6, _⟩ => ⟨S128x2048, .i8⟩
  | .hbm, ⟨7, _⟩ => ⟨S128x256, .fp8e4m3⟩
  | .hbm, ⟨8, _⟩ => ⟨S128x14336, .bf16⟩
  | .local _ .vmem, ⟨0, _⟩ => ⟨S128x2048, .i8⟩
  | .local _ .vmem, ⟨1, _⟩ => ⟨S128x256, .fp8e4m3⟩
  | .local _ .vmem, ⟨2, _⟩ => ⟨S2048x2048, .i8⟩
  | .local _ .vmem, ⟨3, _⟩ => ⟨S2048x2048, .i8⟩
  | .local _ .vmem, ⟨4, _⟩ => ⟨S256x2048, .fp8e4m3⟩
  | .local _ .vmem, ⟨5, _⟩ => ⟨S256x2048, .fp8e4m3⟩
  | .local _ .vmem, ⟨6, _⟩ => ⟨S128x2048, .bf16⟩
  | .local _ .vmem, ⟨7, _⟩ => ⟨S128x2048, .bf16⟩
  | .local _ .vmem, ⟨8, _⟩ => ⟨S128x4096, .bf16⟩
  | .local _ .vmem, ⟨9, _⟩ => ⟨S16x256x128, .i32⟩
  | .local _ .smem, ⟨0, _⟩ => ⟨S2, .f32⟩
  | .local _ .smem, ⟨1, _⟩ => ⟨S1, .f32⟩
  | _, _ => ⟨S1x128x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [BitOps F]

abbrev grid0 : Pipeline.Grid := ⟨1, ![7], ![false]⟩

@[reducible] def k0_t1_loop : Scf.Loop 32 :=
  let c0_i32_50 : BitVec 32 := 0#32
  let c16_i32 : BitVec 32 := 16#32
  let v100 : BitVec 32 := Scalar.addi c0_i32_50 c16_i32
  let c1_i32 : BitVec 32 := 1#32
  ⟨c0_i32_50, v100, c1_i32⟩
def k0_mult1 (k0_t1 : Fin k0_t1_loop.trips) : BitVec 32 :=
  let c0_i32_50 : BitVec 32 := 0#32
  let c1_i32 : BitVec 32 := 1#32
  let arg10 : BitVec 32 := Scf.iv c0_i32_50 c1_i32 k0_t1
  let c128_i32 : BitVec 32 := 128#32
  let v183 : BitVec 32 := Scalar.muli arg10 c128_i32
  v183
def k0_off1 (k0_t1 : Fin k0_t1_loop.trips) : Fin 2 → Nat :=
  let c0_i32_50 : BitVec 32 := 0#32
  let c1_i32 : BitVec 32 := 1#32
  let arg10 : BitVec 32 := Scf.iv c0_i32_50 c1_i32 k0_t1
  let c128_i32 : BitVec 32 := 128#32
  let v183 : BitVec 32 := Scalar.muli arg10 c128_i32
  let v184 : BitVec 32 := v183
  let v185 : Index := Scalar.indexCast v184
  let c0_98 : Index := 0#32
  ![v185.toNat, 0]
def k0_off2 (k0_t1 : Fin k0_t1_loop.trips) (c0_i32_113 : BitVec 32) : Fin 3 → Nat :=
  let c0_114 : Index := 0#32
  let c0_i32_50 : BitVec 32 := 0#32
  let c1_i32 : BitVec 32 := 1#32
  let arg10 : BitVec 32 := Scf.iv c0_i32_50 c1_i32 k0_t1
  let c16_i32_112 : BitVec 32 := 16#32
  let v236 : BitVec 32 := Scalar.muli arg10 c16_i32_112
  let v237 : BitVec 32 := Scalar.addi v236 c0_i32_113
  let v238 : Index := Scalar.indexCast v237
  let c0_115 : Index := 0#32
  ![0, v238.toNat, 0]
def k0_off3 (k0_t1 : Fin k0_t1_loop.trips) (c0_i32_117 : BitVec 32) : Fin 3 → Nat :=
  let c1_118 : Index := 1#32
  let c0_i32_50 : BitVec 32 := 0#32
  let c1_i32 : BitVec 32 := 1#32
  let arg10 : BitVec 32 := Scf.iv c0_i32_50 c1_i32 k0_t1
  let c16_i32_116 : BitVec 32 := 16#32
  let v242 : BitVec 32 := Scalar.muli arg10 c16_i32_116
  let v243 : BitVec 32 := Scalar.addi v242 c0_i32_117
  let v244 : Index := Scalar.indexCast v243
  let c0_119 : Index := 0#32
  ![1, v244.toNat, 0]
def k0_off4 (k0_t1 : Fin k0_t1_loop.trips) (c0_i32_121 : BitVec 32) : Fin 3 → Nat :=
  let c2_122 : Index := 2#32
  let c0_i32_50 : BitVec 32 := 0#32
  let c1_i32 : BitVec 32 := 1#32
  let arg10 : BitVec 32 := Scf.iv c0_i32_50 c1_i32 k0_t1
  let c16_i32_120 : BitVec 32 := 16#32
  let v248 : BitVec 32 := Scalar.muli arg10 c16_i32_120
  let v249 : BitVec 32 := Scalar.addi v248 c0_i32_121
  let v250 : Index := Scalar.indexCast v249
  let c0_123 : Index := 0#32
  ![2, v250.toNat, 0]
def k0_off5 (k0_t1 : Fin k0_t1_loop.trips) (c0_i32_125 : BitVec 32) : Fin 3 → Nat :=
  let c3_126 : Index := 3#32
  let c0_i32_50 : BitVec 32 := 0#32
  let c1_i32 : BitVec 32 := 1#32
  let arg10 : BitVec 32 := Scf.iv c0_i32_50 c1_i32 k0_t1
  let c16_i32_124 : BitVec 32 := 16#32
  let v254 : BitVec 32 := Scalar.muli arg10 c16_i32_124
  let v255 : BitVec 32 := Scalar.addi v254 c0_i32_125
  let v256 : Index := Scalar.indexCast v255
  let c0_127 : Index := 0#32
  ![3, v256.toNat, 0]
def k0_mult2 (k0_t1 : Fin k0_t1_loop.trips) : BitVec 32 :=
  let c0_i32_50 : BitVec 32 := 0#32
  let c1_i32 : BitVec 32 := 1#32
  let arg10 : BitVec 32 := Scf.iv c0_i32_50 c1_i32 k0_t1
  let c256_i32 : BitVec 32 := 256#32
  let v685 : BitVec 32 := Scalar.muli arg10 c256_i32
  v685
def k0_off6 (k0_t1 : Fin k0_t1_loop.trips) : Fin 2 → Nat :=
  let c0_361 : Index := 0#32
  let c0_i32_50 : BitVec 32 := 0#32
  let c1_i32 : BitVec 32 := 1#32
  let arg10 : BitVec 32 := Scf.iv c0_i32_50 c1_i32 k0_t1
  let c256_i32 : BitVec 32 := 256#32
  let v685 : BitVec 32 := Scalar.muli arg10 c256_i32
  let v686 : BitVec 32 := v685
  let v687 : Index := Scalar.indexCast v686
  ![0, v687.toNat]
@[reducible] def k0_t2_loop : Scf.Loop 32 :=
  let c0_i32_60 : BitVec 32 := 0#32
  let c16_i32_61 : BitVec 32 := 16#32
  let v121 : BitVec 32 := Scalar.addi c0_i32_60 c16_i32_61
  let c1_i32_62 : BitVec 32 := 1#32
  ⟨c0_i32_60, v121, c1_i32_62⟩
def k0_mult3 (k0_t2 : Fin k0_t2_loop.trips) : BitVec 32 :=
  let c0_i32_60 : BitVec 32 := 0#32
  let c1_i32_62 : BitVec 32 := 1#32
  let arg10 : BitVec 32 := Scf.iv c0_i32_60 c1_i32_62 k0_t2
  let c128_i32 : BitVec 32 := 128#32
  let v183 : BitVec 32 := Scalar.muli arg10 c128_i32
  v183
def k0_off7 (k0_t2 : Fin k0_t2_loop.trips) : Fin 2 → Nat :=
  let c0_i32_60 : BitVec 32 := 0#32
  let c1_i32_62 : BitVec 32 := 1#32
  let arg10 : BitVec 32 := Scf.iv c0_i32_60 c1_i32_62 k0_t2
  let c128_i32 : BitVec 32 := 128#32
  let v183 : BitVec 32 := Scalar.muli arg10 c128_i32
  let v184 : BitVec 32 := v183
  let v185 : Index := Scalar.indexCast v184
  let c512_98 : Index := 512#32
  ![v185.toNat, 512]
def k0_off8 (k0_t2 : Fin k0_t2_loop.trips) (c0_i32_113 : BitVec 32) : Fin 3 → Nat :=
  let c4_114 : Index := 4#32
  let c0_i32_60 : BitVec 32 := 0#32
  let c1_i32_62 : BitVec 32 := 1#32
  let arg10 : BitVec 32 := Scf.iv c0_i32_60 c1_i32_62 k0_t2
  let c16_i32_112 : BitVec 32 := 16#32
  let v236 : BitVec 32 := Scalar.muli arg10 c16_i32_112
  let v237 : BitVec 32 := Scalar.addi v236 c0_i32_113
  let v238 : Index := Scalar.indexCast v237
  let c0_115 : Index := 0#32
  ![4, v238.toNat, 0]
def k0_off9 (k0_t2 : Fin k0_t2_loop.trips) (c0_i32_117 : BitVec 32) : Fin 3 → Nat :=
  let c5_118 : Index := 5#32
  let c0_i32_60 : BitVec 32 := 0#32
  let c1_i32_62 : BitVec 32 := 1#32
  let arg10 : BitVec 32 := Scf.iv c0_i32_60 c1_i32_62 k0_t2
  let c16_i32_116 : BitVec 32 := 16#32
  let v242 : BitVec 32 := Scalar.muli arg10 c16_i32_116
  let v243 : BitVec 32 := Scalar.addi v242 c0_i32_117
  let v244 : Index := Scalar.indexCast v243
  let c0_119 : Index := 0#32
  ![5, v244.toNat, 0]
def k0_off10 (k0_t2 : Fin k0_t2_loop.trips) (c0_i32_121 : BitVec 32) : Fin 3 → Nat :=
  let c6_122 : Index := 6#32
  let c0_i32_60 : BitVec 32 := 0#32
  let c1_i32_62 : BitVec 32 := 1#32
  let arg10 : BitVec 32 := Scf.iv c0_i32_60 c1_i32_62 k0_t2
  let c16_i32_120 : BitVec 32 := 16#32
  let v248 : BitVec 32 := Scalar.muli arg10 c16_i32_120
  let v249 : BitVec 32 := Scalar.addi v248 c0_i32_121
  let v250 : Index := Scalar.indexCast v249
  let c0_123 : Index := 0#32
  ![6, v250.toNat, 0]
def k0_off11 (k0_t2 : Fin k0_t2_loop.trips) (c0_i32_125 : BitVec 32) : Fin 3 → Nat :=
  let c7_126 : Index := 7#32
  let c0_i32_60 : BitVec 32 := 0#32
  let c1_i32_62 : BitVec 32 := 1#32
  let arg10 : BitVec 32 := Scf.iv c0_i32_60 c1_i32_62 k0_t2
  let c16_i32_124 : BitVec 32 := 16#32
  let v254 : BitVec 32 := Scalar.muli arg10 c16_i32_124
  let v255 : BitVec 32 := Scalar.addi v254 c0_i32_125
  let v256 : Index := Scalar.indexCast v255
  let c0_127 : Index := 0#32
  ![7, v256.toNat, 0]
def k0_mult4 (k0_t2 : Fin k0_t2_loop.trips) : BitVec 32 :=
  let c0_i32_60 : BitVec 32 := 0#32
  let c1_i32_62 : BitVec 32 := 1#32
  let arg10 : BitVec 32 := Scf.iv c0_i32_60 c1_i32_62 k0_t2
  let c256_i32 : BitVec 32 := 256#32
  let v685 : BitVec 32 := Scalar.muli arg10 c256_i32
  v685
def k0_off12 (k0_t2 : Fin k0_t2_loop.trips) : Fin 2 → Nat :=
  let c0_361 : Index := 0#32
  let c0_i32_60 : BitVec 32 := 0#32
  let c1_i32_62 : BitVec 32 := 1#32
  let arg10 : BitVec 32 := Scf.iv c0_i32_60 c1_i32_62 k0_t2
  let c256_i32 : BitVec 32 := 256#32
  let v685 : BitVec 32 := Scalar.muli arg10 c256_i32
  let v686 : BitVec 32 := v685
  let v687 : Index := Scalar.indexCast v686
  ![0, v687.toNat]
@[reducible] def k0_t3_loop : Scf.Loop 32 :=
  let c0_i32_73 : BitVec 32 := 0#32
  let c16_i32_74 : BitVec 32 := 16#32
  let v142 : BitVec 32 := Scalar.addi c0_i32_73 c16_i32_74
  let c1_i32_75 : BitVec 32 := 1#32
  ⟨c0_i32_73, v142, c1_i32_75⟩
def k0_mult5 (k0_t3 : Fin k0_t3_loop.trips) : BitVec 32 :=
  let c0_i32_73 : BitVec 32 := 0#32
  let c1_i32_75 : BitVec 32 := 1#32
  let arg10 : BitVec 32 := Scf.iv c0_i32_73 c1_i32_75 k0_t3
  let c128_i32 : BitVec 32 := 128#32
  let v183 : BitVec 32 := Scalar.muli arg10 c128_i32
  v183
def k0_off13 (k0_t3 : Fin k0_t3_loop.trips) : Fin 2 → Nat :=
  let c0_i32_73 : BitVec 32 := 0#32
  let c1_i32_75 : BitVec 32 := 1#32
  let arg10 : BitVec 32 := Scf.iv c0_i32_73 c1_i32_75 k0_t3
  let c128_i32 : BitVec 32 := 128#32
  let v183 : BitVec 32 := Scalar.muli arg10 c128_i32
  let v184 : BitVec 32 := v183
  let v185 : Index := Scalar.indexCast v184
  let c1024_98 : Index := 1024#32
  ![v185.toNat, 1024]
def k0_off14 (k0_t3 : Fin k0_t3_loop.trips) (c0_i32_113 : BitVec 32) : Fin 3 → Nat :=
  let c8_114 : Index := 8#32
  let c0_i32_73 : BitVec 32 := 0#32
  let c1_i32_75 : BitVec 32 := 1#32
  let arg10 : BitVec 32 := Scf.iv c0_i32_73 c1_i32_75 k0_t3
  let c16_i32_112 : BitVec 32 := 16#32
  let v236 : BitVec 32 := Scalar.muli arg10 c16_i32_112
  let v237 : BitVec 32 := Scalar.addi v236 c0_i32_113
  let v238 : Index := Scalar.indexCast v237
  let c0_115 : Index := 0#32
  ![8, v238.toNat, 0]
def k0_off15 (k0_t3 : Fin k0_t3_loop.trips) (c0_i32_117 : BitVec 32) : Fin 3 → Nat :=
  let c9_118 : Index := 9#32
  let c0_i32_73 : BitVec 32 := 0#32
  let c1_i32_75 : BitVec 32 := 1#32
  let arg10 : BitVec 32 := Scf.iv c0_i32_73 c1_i32_75 k0_t3
  let c16_i32_116 : BitVec 32 := 16#32
  let v242 : BitVec 32 := Scalar.muli arg10 c16_i32_116
  let v243 : BitVec 32 := Scalar.addi v242 c0_i32_117
  let v244 : Index := Scalar.indexCast v243
  let c0_119 : Index := 0#32
  ![9, v244.toNat, 0]
def k0_off16 (k0_t3 : Fin k0_t3_loop.trips) (c0_i32_121 : BitVec 32) : Fin 3 → Nat :=
  let c10_122 : Index := 10#32
  let c0_i32_73 : BitVec 32 := 0#32
  let c1_i32_75 : BitVec 32 := 1#32
  let arg10 : BitVec 32 := Scf.iv c0_i32_73 c1_i32_75 k0_t3
  let c16_i32_120 : BitVec 32 := 16#32
  let v248 : BitVec 32 := Scalar.muli arg10 c16_i32_120
  let v249 : BitVec 32 := Scalar.addi v248 c0_i32_121
  let v250 : Index := Scalar.indexCast v249
  let c0_123 : Index := 0#32
  ![10, v250.toNat, 0]
def k0_off17 (k0_t3 : Fin k0_t3_loop.trips) (c0_i32_125 : BitVec 32) : Fin 3 → Nat :=
  let c11_126 : Index := 11#32
  let c0_i32_73 : BitVec 32 := 0#32
  let c1_i32_75 : BitVec 32 := 1#32
  let arg10 : BitVec 32 := Scf.iv c0_i32_73 c1_i32_75 k0_t3
  let c16_i32_124 : BitVec 32 := 16#32
  let v254 : BitVec 32 := Scalar.muli arg10 c16_i32_124
  let v255 : BitVec 32 := Scalar.addi v254 c0_i32_125
  let v256 : Index := Scalar.indexCast v255
  let c0_127 : Index := 0#32
  ![11, v256.toNat, 0]
def k0_mult6 (k0_t3 : Fin k0_t3_loop.trips) : BitVec 32 :=
  let c0_i32_73 : BitVec 32 := 0#32
  let c1_i32_75 : BitVec 32 := 1#32
  let arg10 : BitVec 32 := Scf.iv c0_i32_73 c1_i32_75 k0_t3
  let c256_i32 : BitVec 32 := 256#32
  let v685 : BitVec 32 := Scalar.muli arg10 c256_i32
  v685
def k0_off18 (k0_t3 : Fin k0_t3_loop.trips) : Fin 2 → Nat :=
  let c0_361 : Index := 0#32
  let c0_i32_73 : BitVec 32 := 0#32
  let c1_i32_75 : BitVec 32 := 1#32
  let arg10 : BitVec 32 := Scf.iv c0_i32_73 c1_i32_75 k0_t3
  let c256_i32 : BitVec 32 := 256#32
  let v685 : BitVec 32 := Scalar.muli arg10 c256_i32
  let v686 : BitVec 32 := v685
  let v687 : Index := Scalar.indexCast v686
  ![0, v687.toNat]
@[reducible] def k0_t4_loop : Scf.Loop 32 :=
  let c0_i32_86 : BitVec 32 := 0#32
  let c16_i32_87 : BitVec 32 := 16#32
  let v163 : BitVec 32 := Scalar.addi c0_i32_86 c16_i32_87
  let c1_i32_88 : BitVec 32 := 1#32
  ⟨c0_i32_86, v163, c1_i32_88⟩
def k0_mult7 (k0_t4 : Fin k0_t4_loop.trips) : BitVec 32 :=
  let c0_i32_86 : BitVec 32 := 0#32
  let c1_i32_88 : BitVec 32 := 1#32
  let arg10 : BitVec 32 := Scf.iv c0_i32_86 c1_i32_88 k0_t4
  let c128_i32 : BitVec 32 := 128#32
  let v183 : BitVec 32 := Scalar.muli arg10 c128_i32
  v183
def k0_off19 (k0_t4 : Fin k0_t4_loop.trips) : Fin 2 → Nat :=
  let c0_i32_86 : BitVec 32 := 0#32
  let c1_i32_88 : BitVec 32 := 1#32
  let arg10 : BitVec 32 := Scf.iv c0_i32_86 c1_i32_88 k0_t4
  let c128_i32 : BitVec 32 := 128#32
  let v183 : BitVec 32 := Scalar.muli arg10 c128_i32
  let v184 : BitVec 32 := v183
  let v185 : Index := Scalar.indexCast v184
  let c1536_98 : Index := 1536#32
  ![v185.toNat, 1536]
def k0_off20 (k0_t4 : Fin k0_t4_loop.trips) (c0_i32_113 : BitVec 32) : Fin 3 → Nat :=
  let c12_114 : Index := 12#32
  let c0_i32_86 : BitVec 32 := 0#32
  let c1_i32_88 : BitVec 32 := 1#32
  let arg10 : BitVec 32 := Scf.iv c0_i32_86 c1_i32_88 k0_t4
  let c16_i32_112 : BitVec 32 := 16#32
  let v236 : BitVec 32 := Scalar.muli arg10 c16_i32_112
  let v237 : BitVec 32 := Scalar.addi v236 c0_i32_113
  let v238 : Index := Scalar.indexCast v237
  let c0_115 : Index := 0#32
  ![12, v238.toNat, 0]
def k0_off21 (k0_t4 : Fin k0_t4_loop.trips) (c0_i32_117 : BitVec 32) : Fin 3 → Nat :=
  let c13_118 : Index := 13#32
  let c0_i32_86 : BitVec 32 := 0#32
  let c1_i32_88 : BitVec 32 := 1#32
  let arg10 : BitVec 32 := Scf.iv c0_i32_86 c1_i32_88 k0_t4
  let c16_i32_116 : BitVec 32 := 16#32
  let v242 : BitVec 32 := Scalar.muli arg10 c16_i32_116
  let v243 : BitVec 32 := Scalar.addi v242 c0_i32_117
  let v244 : Index := Scalar.indexCast v243
  let c0_119 : Index := 0#32
  ![13, v244.toNat, 0]
def k0_off22 (k0_t4 : Fin k0_t4_loop.trips) (c0_i32_121 : BitVec 32) : Fin 3 → Nat :=
  let c14_122 : Index := 14#32
  let c0_i32_86 : BitVec 32 := 0#32
  let c1_i32_88 : BitVec 32 := 1#32
  let arg10 : BitVec 32 := Scf.iv c0_i32_86 c1_i32_88 k0_t4
  let c16_i32_120 : BitVec 32 := 16#32
  let v248 : BitVec 32 := Scalar.muli arg10 c16_i32_120
  let v249 : BitVec 32 := Scalar.addi v248 c0_i32_121
  let v250 : Index := Scalar.indexCast v249
  let c0_123 : Index := 0#32
  ![14, v250.toNat, 0]
def k0_off23 (k0_t4 : Fin k0_t4_loop.trips) (c0_i32_125 : BitVec 32) : Fin 3 → Nat :=
  let c15_126 : Index := 15#32
  let c0_i32_86 : BitVec 32 := 0#32
  let c1_i32_88 : BitVec 32 := 1#32
  let arg10 : BitVec 32 := Scf.iv c0_i32_86 c1_i32_88 k0_t4
  let c16_i32_124 : BitVec 32 := 16#32
  let v254 : BitVec 32 := Scalar.muli arg10 c16_i32_124
  let v255 : BitVec 32 := Scalar.addi v254 c0_i32_125
  let v256 : Index := Scalar.indexCast v255
  let c0_127 : Index := 0#32
  ![15, v256.toNat, 0]
def k0_mult8 (k0_t4 : Fin k0_t4_loop.trips) : BitVec 32 :=
  let c0_i32_86 : BitVec 32 := 0#32
  let c1_i32_88 : BitVec 32 := 1#32
  let arg10 : BitVec 32 := Scf.iv c0_i32_86 c1_i32_88 k0_t4
  let c256_i32 : BitVec 32 := 256#32
  let v685 : BitVec 32 := Scalar.muli arg10 c256_i32
  v685
def k0_off24 (k0_t4 : Fin k0_t4_loop.trips) : Fin 2 → Nat :=
  let c0_361 : Index := 0#32
  let c0_i32_86 : BitVec 32 := 0#32
  let c1_i32_88 : BitVec 32 := 1#32
  let arg10 : BitVec 32 := Scf.iv c0_i32_86 c1_i32_88 k0_t4
  let c256_i32 : BitVec 32 := 256#32
  let v685 : BitVec 32 := Scalar.muli arg10 c256_i32
  let v686 : BitVec 32 := v685
  let v687 : Index := Scalar.indexCast v686
  ![0, v687.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x2048 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
abbrev S1x128x2048 : Shape := ⟨3, ![1, 128, 2048]⟩
abbrev S1x128x256 : Shape := ⟨3, ![1, 128, 256]⟩
abbrev S2 : Shape := ⟨1, ![2]⟩
abbrev S2048x14336 : Shape := ⟨2, ![2048, 14336]⟩
abbrev S256x14336 : Shape := ⟨2, ![256, 14336]⟩
abbrev S1 : Shape := ⟨1, ![1]⟩
abbrev S128x2048 : Shape := ⟨2, ![128, 2048]⟩
abbrev S128x256 : Shape := ⟨2, ![128, 256]⟩
abbrev S128x14336 : Shape := ⟨2, ![128, 14336]⟩
abbrev S2048x2048 : Shape := ⟨2, ![2048, 2048]⟩
abbrev S256x2048 : Shape := ⟨2, ![256, 2048]⟩
abbrev S128x4096 : Shape := ⟨2, ![128, 4096]⟩
abbrev S16x256x128 : Shape := ⟨3, ![16, 256, 128]⟩
abbrev S16x256x2x128 : Shape := ⟨4, ![16, 256, 2, 128]⟩
abbrev S16x256x1x128 : Shape := ⟨4, ![16, 256, 1, 128]⟩
abbrev S256x256 : Shape := ⟨2, ![256, 256]⟩
abbrev S128x128 : Shape := ⟨2, ![128, 128]⟩
abbrev S256x128 : Shape := ⟨2, ![256, 128]⟩
abbrev S1x256x128 : Shape := ⟨3, ![1, 256, 128]⟩
abbrev S1x256x2x128 : Shape := ⟨4, ![1, 256, 2, 128]⟩
abbrev S1x256x1x128 : Shape := ⟨4, ![1, 256, 1, 128]⟩
abbrev S128x512 : Shape := ⟨2, ![128, 512]⟩
abbrev S256x512 : Shape := ⟨2, ![256, 512]⟩
abbrev S1x1x128 : Shape := ⟨3, ![1, 1, 128]⟩
abbrev S1x1x2x128 : Shape := ⟨4, ![1, 1, 2, 128]⟩
abbrev S1x1x1x128 : Shape := ⟨4, ![1, 1, 1, 128]⟩
abbrev S1x128 : Shape := ⟨2, ![1, 128]⟩
abbrev S8x128 : Shape := ⟨2, ![8, 128]⟩
abbrev S8x512 : Shape := ⟨2, ![8, 512]⟩
abbrev S16x512 : Shape := ⟨2, ![16, 512]⟩
abbrev S64x512 : Shape := ⟨2, ![64, 512]⟩

abbrev nBuf : Space → Nat
  | .hbm => 9
  | .vmem => 10
  | .smem => 2
  | _ => 0

abbrev bufTy : (tb : Table) → Fin (tcTables nBuf tb) → BufTy
  | .hbm, ⟨0, _⟩ => ⟨S1x128x2048, .i8⟩
  | .hbm, ⟨1, _⟩ => ⟨S1x128x256, .fp8e4m3⟩
  | .hbm, ⟨2, _⟩ => ⟨S2, .f32⟩
  | .hbm, ⟨3, _⟩ => ⟨S2048x14336, .i8⟩
  | .hbm, ⟨4, _⟩ => ⟨S256x14336, .fp8e4m3⟩
  | .hbm, ⟨5, _⟩ => ⟨S1, .f32⟩
  | .hbm, ⟨6, _⟩ => ⟨S128x2048, .i8⟩
  | .hbm, ⟨7, _⟩ => ⟨S128x256, .fp8e4m3⟩
  | .hbm, ⟨8, _⟩ => ⟨S128x14336, .bf16⟩
  | .local _ .vmem, ⟨0, _⟩ => ⟨S128x2048, .i8⟩
  | .local _ .vmem, ⟨1, _⟩ => ⟨S128x256, .fp8e4m3⟩
  | .local _ .vmem, ⟨2, _⟩ => ⟨S2048x2048, .i8⟩
  | .local _ .vmem, ⟨3, _⟩ => ⟨S2048x2048, .i8⟩
  | .local _ .vmem, ⟨4, _⟩ => ⟨S256x2048, .fp8e4m3⟩
  | .local _ .vmem, ⟨5, _⟩ => ⟨S256x2048, .fp8e4m3⟩
  | .local _ .vmem, ⟨6, _⟩ => ⟨S128x2048, .bf16⟩
  | .local _ .vmem, ⟨7, _⟩ => ⟨S128x2048, .bf16⟩
  | .local _ .vmem, ⟨8, _⟩ => ⟨S128x4096, .bf16⟩
  | .local _ .vmem, ⟨9, _⟩ => ⟨S16x256x2x128, .bf16⟩
  | .local _ .smem, ⟨0, _⟩ => ⟨S2, .f32⟩
  | .local _ .smem, ⟨1, _⟩ => ⟨S1, .f32⟩
  | _, _ => ⟨S1x128x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![7], ![false]⟩

@[reducible] def k0_t1_loop : Scf.Loop 32 :=
  let c0_i32_50 : BitVec 32 := 0#32
  let c16_i32 : BitVec 32 := 16#32
  let v100 : BitVec 32 := Scalar.addi c0_i32_50 c16_i32
  let c1_i32 : BitVec 32 := 1#32
  ⟨c0_i32_50, v100, c1_i32⟩
def k0_mult1 (k0_t1 : Fin k0_t1_loop.trips) : BitVec 32 :=
  let c0_i32_50 : BitVec 32 := 0#32
  let c1_i32 : BitVec 32 := 1#32
  let arg10 : BitVec 32 := Scf.iv c0_i32_50 c1_i32 k0_t1
  let c128_i32 : BitVec 32 := 128#32
  let v183 : BitVec 32 := Scalar.muli arg10 c128_i32
  v183
def k0_off1 (k0_t1 : Fin k0_t1_loop.trips) : Fin 2 → Nat :=
  let c0_i32_50 : BitVec 32 := 0#32
  let c1_i32 : BitVec 32 := 1#32
  let arg10 : BitVec 32 := Scf.iv c0_i32_50 c1_i32 k0_t1
  let c128_i32 : BitVec 32 := 128#32
  let v183 : BitVec 32 := Scalar.muli arg10 c128_i32
  let v184 : BitVec 32 := v183
  let v185 : Index := Scalar.indexCast v184
  let c0_98 : Index := 0#32
  ![v185.toNat, 0]
def k0_off2 (k0_t1 : Fin k0_t1_loop.trips) (c0_i32_113 : BitVec 32) : Fin 4 → Nat :=
  let c0_114 : Index := 0#32
  let c0_i32_50 : BitVec 32 := 0#32
  let c1_i32 : BitVec 32 := 1#32
  let arg10 : BitVec 32 := Scf.iv c0_i32_50 c1_i32 k0_t1
  let c16_i32_112 : BitVec 32 := 16#32
  let v236 : BitVec 32 := Scalar.muli arg10 c16_i32_112
  let v237 : BitVec 32 := Scalar.addi v236 c0_i32_113
  let v238 : Index := Scalar.indexCast v237
  let c0_115 : Index := 0#32
  ![0, v238.toNat, 0, 0]
def k0_off3 (k0_t1 : Fin k0_t1_loop.trips) (c0_i32_117 : BitVec 32) : Fin 4 → Nat :=
  let c1_118 : Index := 1#32
  let c0_i32_50 : BitVec 32 := 0#32
  let c1_i32 : BitVec 32 := 1#32
  let arg10 : BitVec 32 := Scf.iv c0_i32_50 c1_i32 k0_t1
  let c16_i32_116 : BitVec 32 := 16#32
  let v242 : BitVec 32 := Scalar.muli arg10 c16_i32_116
  let v243 : BitVec 32 := Scalar.addi v242 c0_i32_117
  let v244 : Index := Scalar.indexCast v243
  let c0_119 : Index := 0#32
  ![1, v244.toNat, 0, 0]
def k0_off4 (k0_t1 : Fin k0_t1_loop.trips) (c0_i32_121 : BitVec 32) : Fin 4 → Nat :=
  let c2_122 : Index := 2#32
  let c0_i32_50 : BitVec 32 := 0#32
  let c1_i32 : BitVec 32 := 1#32
  let arg10 : BitVec 32 := Scf.iv c0_i32_50 c1_i32 k0_t1
  let c16_i32_120 : BitVec 32 := 16#32
  let v248 : BitVec 32 := Scalar.muli arg10 c16_i32_120
  let v249 : BitVec 32 := Scalar.addi v248 c0_i32_121
  let v250 : Index := Scalar.indexCast v249
  let c0_123 : Index := 0#32
  ![2, v250.toNat, 0, 0]
def k0_off5 (k0_t1 : Fin k0_t1_loop.trips) (c0_i32_125 : BitVec 32) : Fin 4 → Nat :=
  let c3_126 : Index := 3#32
  let c0_i32_50 : BitVec 32 := 0#32
  let c1_i32 : BitVec 32 := 1#32
  let arg10 : BitVec 32 := Scf.iv c0_i32_50 c1_i32 k0_t1
  let c16_i32_124 : BitVec 32 := 16#32
  let v254 : BitVec 32 := Scalar.muli arg10 c16_i32_124
  let v255 : BitVec 32 := Scalar.addi v254 c0_i32_125
  let v256 : Index := Scalar.indexCast v255
  let c0_127 : Index := 0#32
  ![3, v256.toNat, 0, 0]
def k0_mult2 (k0_t1 : Fin k0_t1_loop.trips) : BitVec 32 :=
  let c0_i32_50 : BitVec 32 := 0#32
  let c1_i32 : BitVec 32 := 1#32
  let arg10 : BitVec 32 := Scf.iv c0_i32_50 c1_i32 k0_t1
  let c256_i32 : BitVec 32 := 256#32
  let v685 : BitVec 32 := Scalar.muli arg10 c256_i32
  v685
def k0_off6 (k0_t1 : Fin k0_t1_loop.trips) : Fin 2 → Nat :=
  let c0_361 : Index := 0#32
  let c0_i32_50 : BitVec 32 := 0#32
  let c1_i32 : BitVec 32 := 1#32
  let arg10 : BitVec 32 := Scf.iv c0_i32_50 c1_i32 k0_t1
  let c256_i32 : BitVec 32 := 256#32
  let v685 : BitVec 32 := Scalar.muli arg10 c256_i32
  let v686 : BitVec 32 := v685
  let v687 : Index := Scalar.indexCast v686
  ![0, v687.toNat]
@[reducible] def k0_t2_loop : Scf.Loop 32 :=
  let c0_i32_60 : BitVec 32 := 0#32
  let c16_i32_61 : BitVec 32 := 16#32
  let v121 : BitVec 32 := Scalar.addi c0_i32_60 c16_i32_61
  let c1_i32_62 : BitVec 32 := 1#32
  ⟨c0_i32_60, v121, c1_i32_62⟩
def k0_mult3 (k0_t2 : Fin k0_t2_loop.trips) : BitVec 32 :=
  let c0_i32_60 : BitVec 32 := 0#32
  let c1_i32_62 : BitVec 32 := 1#32
  let arg10 : BitVec 32 := Scf.iv c0_i32_60 c1_i32_62 k0_t2
  let c128_i32 : BitVec 32 := 128#32
  let v183 : BitVec 32 := Scalar.muli arg10 c128_i32
  v183
def k0_off7 (k0_t2 : Fin k0_t2_loop.trips) : Fin 2 → Nat :=
  let c0_i32_60 : BitVec 32 := 0#32
  let c1_i32_62 : BitVec 32 := 1#32
  let arg10 : BitVec 32 := Scf.iv c0_i32_60 c1_i32_62 k0_t2
  let c128_i32 : BitVec 32 := 128#32
  let v183 : BitVec 32 := Scalar.muli arg10 c128_i32
  let v184 : BitVec 32 := v183
  let v185 : Index := Scalar.indexCast v184
  let c512_98 : Index := 512#32
  ![v185.toNat, 512]
def k0_off8 (k0_t2 : Fin k0_t2_loop.trips) (c0_i32_113 : BitVec 32) : Fin 4 → Nat :=
  let c4_114 : Index := 4#32
  let c0_i32_60 : BitVec 32 := 0#32
  let c1_i32_62 : BitVec 32 := 1#32
  let arg10 : BitVec 32 := Scf.iv c0_i32_60 c1_i32_62 k0_t2
  let c16_i32_112 : BitVec 32 := 16#32
  let v236 : BitVec 32 := Scalar.muli arg10 c16_i32_112
  let v237 : BitVec 32 := Scalar.addi v236 c0_i32_113
  let v238 : Index := Scalar.indexCast v237
  let c0_115 : Index := 0#32
  ![4, v238.toNat, 0, 0]
def k0_off9 (k0_t2 : Fin k0_t2_loop.trips) (c0_i32_117 : BitVec 32) : Fin 4 → Nat :=
  let c5_118 : Index := 5#32
  let c0_i32_60 : BitVec 32 := 0#32
  let c1_i32_62 : BitVec 32 := 1#32
  let arg10 : BitVec 32 := Scf.iv c0_i32_60 c1_i32_62 k0_t2
  let c16_i32_116 : BitVec 32 := 16#32
  let v242 : BitVec 32 := Scalar.muli arg10 c16_i32_116
  let v243 : BitVec 32 := Scalar.addi v242 c0_i32_117
  let v244 : Index := Scalar.indexCast v243
  let c0_119 : Index := 0#32
  ![5, v244.toNat, 0, 0]
def k0_off10 (k0_t2 : Fin k0_t2_loop.trips) (c0_i32_121 : BitVec 32) : Fin 4 → Nat :=
  let c6_122 : Index := 6#32
  let c0_i32_60 : BitVec 32 := 0#32
  let c1_i32_62 : BitVec 32 := 1#32
  let arg10 : BitVec 32 := Scf.iv c0_i32_60 c1_i32_62 k0_t2
  let c16_i32_120 : BitVec 32 := 16#32
  let v248 : BitVec 32 := Scalar.muli arg10 c16_i32_120
  let v249 : BitVec 32 := Scalar.addi v248 c0_i32_121
  let v250 : Index := Scalar.indexCast v249
  let c0_123 : Index := 0#32
  ![6, v250.toNat, 0, 0]
def k0_off11 (k0_t2 : Fin k0_t2_loop.trips) (c0_i32_125 : BitVec 32) : Fin 4 → Nat :=
  let c7_126 : Index := 7#32
  let c0_i32_60 : BitVec 32 := 0#32
  let c1_i32_62 : BitVec 32 := 1#32
  let arg10 : BitVec 32 := Scf.iv c0_i32_60 c1_i32_62 k0_t2
  let c16_i32_124 : BitVec 32 := 16#32
  let v254 : BitVec 32 := Scalar.muli arg10 c16_i32_124
  let v255 : BitVec 32 := Scalar.addi v254 c0_i32_125
  let v256 : Index := Scalar.indexCast v255
  let c0_127 : Index := 0#32
  ![7, v256.toNat, 0, 0]
def k0_mult4 (k0_t2 : Fin k0_t2_loop.trips) : BitVec 32 :=
  let c0_i32_60 : BitVec 32 := 0#32
  let c1_i32_62 : BitVec 32 := 1#32
  let arg10 : BitVec 32 := Scf.iv c0_i32_60 c1_i32_62 k0_t2
  let c256_i32 : BitVec 32 := 256#32
  let v685 : BitVec 32 := Scalar.muli arg10 c256_i32
  v685
def k0_off12 (k0_t2 : Fin k0_t2_loop.trips) : Fin 2 → Nat :=
  let c0_361 : Index := 0#32
  let c0_i32_60 : BitVec 32 := 0#32
  let c1_i32_62 : BitVec 32 := 1#32
  let arg10 : BitVec 32 := Scf.iv c0_i32_60 c1_i32_62 k0_t2
  let c256_i32 : BitVec 32 := 256#32
  let v685 : BitVec 32 := Scalar.muli arg10 c256_i32
  let v686 : BitVec 32 := v685
  let v687 : Index := Scalar.indexCast v686
  ![0, v687.toNat]
@[reducible] def k0_t3_loop : Scf.Loop 32 :=
  let c0_i32_73 : BitVec 32 := 0#32
  let c16_i32_74 : BitVec 32 := 16#32
  let v142 : BitVec 32 := Scalar.addi c0_i32_73 c16_i32_74
  let c1_i32_75 : BitVec 32 := 1#32
  ⟨c0_i32_73, v142, c1_i32_75⟩
def k0_mult5 (k0_t3 : Fin k0_t3_loop.trips) : BitVec 32 :=
  let c0_i32_73 : BitVec 32 := 0#32
  let c1_i32_75 : BitVec 32 := 1#32
  let arg10 : BitVec 32 := Scf.iv c0_i32_73 c1_i32_75 k0_t3
  let c128_i32 : BitVec 32 := 128#32
  let v183 : BitVec 32 := Scalar.muli arg10 c128_i32
  v183
def k0_off13 (k0_t3 : Fin k0_t3_loop.trips) : Fin 2 → Nat :=
  let c0_i32_73 : BitVec 32 := 0#32
  let c1_i32_75 : BitVec 32 := 1#32
  let arg10 : BitVec 32 := Scf.iv c0_i32_73 c1_i32_75 k0_t3
  let c128_i32 : BitVec 32 := 128#32
  let v183 : BitVec 32 := Scalar.muli arg10 c128_i32
  let v184 : BitVec 32 := v183
  let v185 : Index := Scalar.indexCast v184
  let c1024_98 : Index := 1024#32
  ![v185.toNat, 1024]
def k0_off14 (k0_t3 : Fin k0_t3_loop.trips) (c0_i32_113 : BitVec 32) : Fin 4 → Nat :=
  let c8_114 : Index := 8#32
  let c0_i32_73 : BitVec 32 := 0#32
  let c1_i32_75 : BitVec 32 := 1#32
  let arg10 : BitVec 32 := Scf.iv c0_i32_73 c1_i32_75 k0_t3
  let c16_i32_112 : BitVec 32 := 16#32
  let v236 : BitVec 32 := Scalar.muli arg10 c16_i32_112
  let v237 : BitVec 32 := Scalar.addi v236 c0_i32_113
  let v238 : Index := Scalar.indexCast v237
  let c0_115 : Index := 0#32
  ![8, v238.toNat, 0, 0]
def k0_off15 (k0_t3 : Fin k0_t3_loop.trips) (c0_i32_117 : BitVec 32) : Fin 4 → Nat :=
  let c9_118 : Index := 9#32
  let c0_i32_73 : BitVec 32 := 0#32
  let c1_i32_75 : BitVec 32 := 1#32
  let arg10 : BitVec 32 := Scf.iv c0_i32_73 c1_i32_75 k0_t3
  let c16_i32_116 : BitVec 32 := 16#32
  let v242 : BitVec 32 := Scalar.muli arg10 c16_i32_116
  let v243 : BitVec 32 := Scalar.addi v242 c0_i32_117
  let v244 : Index := Scalar.indexCast v243
  let c0_119 : Index := 0#32
  ![9, v244.toNat, 0, 0]
def k0_off16 (k0_t3 : Fin k0_t3_loop.trips) (c0_i32_121 : BitVec 32) : Fin 4 → Nat :=
  let c10_122 : Index := 10#32
  let c0_i32_73 : BitVec 32 := 0#32
  let c1_i32_75 : BitVec 32 := 1#32
  let arg10 : BitVec 32 := Scf.iv c0_i32_73 c1_i32_75 k0_t3
  let c16_i32_120 : BitVec 32 := 16#32
  let v248 : BitVec 32 := Scalar.muli arg10 c16_i32_120
  let v249 : BitVec 32 := Scalar.addi v248 c0_i32_121
  let v250 : Index := Scalar.indexCast v249
  let c0_123 : Index := 0#32
  ![10, v250.toNat, 0, 0]
def k0_off17 (k0_t3 : Fin k0_t3_loop.trips) (c0_i32_125 : BitVec 32) : Fin 4 → Nat :=
  let c11_126 : Index := 11#32
  let c0_i32_73 : BitVec 32 := 0#32
  let c1_i32_75 : BitVec 32 := 1#32
  let arg10 : BitVec 32 := Scf.iv c0_i32_73 c1_i32_75 k0_t3
  let c16_i32_124 : BitVec 32 := 16#32
  let v254 : BitVec 32 := Scalar.muli arg10 c16_i32_124
  let v255 : BitVec 32 := Scalar.addi v254 c0_i32_125
  let v256 : Index := Scalar.indexCast v255
  let c0_127 : Index := 0#32
  ![11, v256.toNat, 0, 0]
def k0_mult6 (k0_t3 : Fin k0_t3_loop.trips) : BitVec 32 :=
  let c0_i32_73 : BitVec 32 := 0#32
  let c1_i32_75 : BitVec 32 := 1#32
  let arg10 : BitVec 32 := Scf.iv c0_i32_73 c1_i32_75 k0_t3
  let c256_i32 : BitVec 32 := 256#32
  let v685 : BitVec 32 := Scalar.muli arg10 c256_i32
  v685
def k0_off18 (k0_t3 : Fin k0_t3_loop.trips) : Fin 2 → Nat :=
  let c0_361 : Index := 0#32
  let c0_i32_73 : BitVec 32 := 0#32
  let c1_i32_75 : BitVec 32 := 1#32
  let arg10 : BitVec 32 := Scf.iv c0_i32_73 c1_i32_75 k0_t3
  let c256_i32 : BitVec 32 := 256#32
  let v685 : BitVec 32 := Scalar.muli arg10 c256_i32
  let v686 : BitVec 32 := v685
  let v687 : Index := Scalar.indexCast v686
  ![0, v687.toNat]
@[reducible] def k0_t4_loop : Scf.Loop 32 :=
  let c0_i32_86 : BitVec 32 := 0#32
  let c16_i32_87 : BitVec 32 := 16#32
  let v163 : BitVec 32 := Scalar.addi c0_i32_86 c16_i32_87
  let c1_i32_88 : BitVec 32 := 1#32
  ⟨c0_i32_86, v163, c1_i32_88⟩
def k0_mult7 (k0_t4 : Fin k0_t4_loop.trips) : BitVec 32 :=
  let c0_i32_86 : BitVec 32 := 0#32
  let c1_i32_88 : BitVec 32 := 1#32
  let arg10 : BitVec 32 := Scf.iv c0_i32_86 c1_i32_88 k0_t4
  let c128_i32 : BitVec 32 := 128#32
  let v183 : BitVec 32 := Scalar.muli arg10 c128_i32
  v183
def k0_off19 (k0_t4 : Fin k0_t4_loop.trips) : Fin 2 → Nat :=
  let c0_i32_86 : BitVec 32 := 0#32
  let c1_i32_88 : BitVec 32 := 1#32
  let arg10 : BitVec 32 := Scf.iv c0_i32_86 c1_i32_88 k0_t4
  let c128_i32 : BitVec 32 := 128#32
  let v183 : BitVec 32 := Scalar.muli arg10 c128_i32
  let v184 : BitVec 32 := v183
  let v185 : Index := Scalar.indexCast v184
  let c1536_98 : Index := 1536#32
  ![v185.toNat, 1536]
def k0_off20 (k0_t4 : Fin k0_t4_loop.trips) (c0_i32_113 : BitVec 32) : Fin 4 → Nat :=
  let c12_114 : Index := 12#32
  let c0_i32_86 : BitVec 32 := 0#32
  let c1_i32_88 : BitVec 32 := 1#32
  let arg10 : BitVec 32 := Scf.iv c0_i32_86 c1_i32_88 k0_t4
  let c16_i32_112 : BitVec 32 := 16#32
  let v236 : BitVec 32 := Scalar.muli arg10 c16_i32_112
  let v237 : BitVec 32 := Scalar.addi v236 c0_i32_113
  let v238 : Index := Scalar.indexCast v237
  let c0_115 : Index := 0#32
  ![12, v238.toNat, 0, 0]
def k0_off21 (k0_t4 : Fin k0_t4_loop.trips) (c0_i32_117 : BitVec 32) : Fin 4 → Nat :=
  let c13_118 : Index := 13#32
  let c0_i32_86 : BitVec 32 := 0#32
  let c1_i32_88 : BitVec 32 := 1#32
  let arg10 : BitVec 32 := Scf.iv c0_i32_86 c1_i32_88 k0_t4
  let c16_i32_116 : BitVec 32 := 16#32
  let v242 : BitVec 32 := Scalar.muli arg10 c16_i32_116
  let v243 : BitVec 32 := Scalar.addi v242 c0_i32_117
  let v244 : Index := Scalar.indexCast v243
  let c0_119 : Index := 0#32
  ![13, v244.toNat, 0, 0]
def k0_off22 (k0_t4 : Fin k0_t4_loop.trips) (c0_i32_121 : BitVec 32) : Fin 4 → Nat :=
  let c14_122 : Index := 14#32
  let c0_i32_86 : BitVec 32 := 0#32
  let c1_i32_88 : BitVec 32 := 1#32
  let arg10 : BitVec 32 := Scf.iv c0_i32_86 c1_i32_88 k0_t4
  let c16_i32_120 : BitVec 32 := 16#32
  let v248 : BitVec 32 := Scalar.muli arg10 c16_i32_120
  let v249 : BitVec 32 := Scalar.addi v248 c0_i32_121
  let v250 : Index := Scalar.indexCast v249
  let c0_123 : Index := 0#32
  ![14, v250.toNat, 0, 0]
def k0_off23 (k0_t4 : Fin k0_t4_loop.trips) (c0_i32_125 : BitVec 32) : Fin 4 → Nat :=
  let c15_126 : Index := 15#32
  let c0_i32_86 : BitVec 32 := 0#32
  let c1_i32_88 : BitVec 32 := 1#32
  let arg10 : BitVec 32 := Scf.iv c0_i32_86 c1_i32_88 k0_t4
  let c16_i32_124 : BitVec 32 := 16#32
  let v254 : BitVec 32 := Scalar.muli arg10 c16_i32_124
  let v255 : BitVec 32 := Scalar.addi v254 c0_i32_125
  let v256 : Index := Scalar.indexCast v255
  let c0_127 : Index := 0#32
  ![15, v256.toNat, 0, 0]
def k0_mult8 (k0_t4 : Fin k0_t4_loop.trips) : BitVec 32 :=
  let c0_i32_86 : BitVec 32 := 0#32
  let c1_i32_88 : BitVec 32 := 1#32
  let arg10 : BitVec 32 := Scf.iv c0_i32_86 c1_i32_88 k0_t4
  let c256_i32 : BitVec 32 := 256#32
  let v685 : BitVec 32 := Scalar.muli arg10 c256_i32
  v685
def k0_off24 (k0_t4 : Fin k0_t4_loop.trips) : Fin 2 → Nat :=
  let c0_361 : Index := 0#32
  let c0_i32_86 : BitVec 32 := 0#32
  let c1_i32_88 : BitVec 32 := 1#32
  let arg10 : BitVec 32 := Scf.iv c0_i32_86 c1_i32_88 k0_t4
  let c256_i32 : BitVec 32 := 256#32
  let v685 : BitVec 32 := Scalar.muli arg10 c256_i32
  let v686 : BitVec 32 := v685
  let v687 : Index := Scalar.indexCast v686
  ![0, v687.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x2048 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1x128x2048 : Shape := ⟨3, ![1, 128, 2048]⟩
abbrev S1x128x256 : Shape := ⟨3, ![1, 128, 256]⟩
abbrev S2 : Shape := ⟨1, ![2]⟩
abbrev S2048x14336 : Shape := ⟨2, ![2048, 14336]⟩
abbrev S256x14336 : Shape := ⟨2, ![256, 14336]⟩
abbrev S1 : Shape := ⟨1, ![1]⟩
abbrev S128x14336 : Shape := ⟨2, ![128, 14336]⟩
abbrev S1x128x256x8 : Shape := ⟨4, ![1, 128, 256, 8]⟩
abbrev S1x128x256x1 : Shape := ⟨4, ![1, 128, 256, 1]⟩
abbrev S256x8x14336 : Shape := ⟨3, ![256, 8, 14336]⟩
abbrev S256x1x14336 : Shape := ⟨3, ![256, 1, 14336]⟩
abbrev S1x128x14336 : Shape := ⟨3, ![1, 128, 14336]⟩
abbrev S1x2x64x14336 : Shape := ⟨4, ![1, 2, 64, 14336]⟩
abbrev S1x2x1x1 : Shape := ⟨4, ![1, 2, 1, 1]⟩

abbrev nBuf : Space → Nat
  | .hbm => 7
  | .vmem => 7
  | .smem => 0
  | _ => 0

abbrev bufTy : (tb : Table) → Fin (tcTables nBuf tb) → BufTy
  | .hbm, ⟨0, _⟩ => ⟨S1x128x2048, .i8⟩
  | .hbm, ⟨1, _⟩ => ⟨S1x128x256, .fp8e4m3⟩
  | .hbm, ⟨2, _⟩ => ⟨S2, .f32⟩
  | .hbm, ⟨3, _⟩ => ⟨S2048x14336, .i8⟩
  | .hbm, ⟨4, _⟩ => ⟨S256x14336, .fp8e4m3⟩
  | .hbm, ⟨5, _⟩ => ⟨S1, .f32⟩
  | .hbm, ⟨6, _⟩ => ⟨S128x14336, .bf16⟩
  | .local _ .vmem, ⟨0, _⟩ => ⟨S1x128x2048, .i8⟩
  | .local _ .vmem, ⟨1, _⟩ => ⟨S1x128x256, .fp8e4m3⟩
  | .local _ .vmem, ⟨2, _⟩ => ⟨S2, .f32⟩
  | .local _ .vmem, ⟨3, _⟩ => ⟨S2048x14336, .i8⟩
  | .local _ .vmem, ⟨4, _⟩ => ⟨S256x14336, .fp8e4m3⟩
  | .local _ .vmem, ⟨5, _⟩ => ⟨S1, .f32⟩
  | .local _ .vmem, ⟨6, _⟩ => ⟨S128x14336, .bf16⟩
  | _, _ => ⟨S1x128x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x128x2048 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x14336 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x14336 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x14336 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Blocks.lean ====
module

public import proofs.«01_k».proof.Proof.Gen.KernelIdeal.Value
public import Idealize.ShloMosaic.Lib.Pointwise
public import Idealize.ShloMosaic.Lib.Pipeline.ValueKit

/-!
# What each window reads

At grid point `t` the kernel sees the two gain arrays, x's codes and scales whole (reshaped without their unit axis), and
the weights' codes and scales at columns `2048 t` onwards.
-/

@[expose] public section

noncomputable section

namespace Cert.KernelIdeal.Val

open Idealize.ShloMosaic Idealize.ShloMosaic.TcCoe Idealize.SL.Sem Cert.KernelIdeal Cert.KernelIdeal.Gen

variable (m : (l : Loc nD τ sig) → Buf (Elt Ideal) l) (c : Dev nD) (t : Fin cfg0.N)

/-- The printed index maps: the gains and x stand still. -/
theorem idx0 : ∀ t : Fin cfg0.N, win0_0.index t 0 = 0 := by decide
/-- The weights' gain is one block at every grid point. -/
theorem idx1 : ∀ t : Fin cfg0.N, win0_1.index t 0 = 0 := by decide
/-- The codes of x are one block at every grid point. -/
theorem idx2 : ∀ t : Fin cfg0.N, win0_2.index t 0 = 0 ∧ win0_2.index t 1 = 0 := by decide
/-- The scales of x are one block at every grid point. -/
theorem idx3 : ∀ t : Fin cfg0.N, win0_3.index t 0 = 0 ∧ win0_3.index t 1 = 0 := by decide

/-- The printed index maps of the weights' windows: column block `t`. -/
theorem idx4 : ∀ t : Fin cfg0.N, win0_4.index t 0 = 0 ∧ win0_4.index t 1 = t.val := by decide
/-- Grid point `t` takes column block `t` of the weights' scales. -/
theorem idx5 : ∀ t : Fin cfg0.N, win0_5.index t 0 = 0 ∧ win0_5.index t 1 = t.val := by decide

/-- The block of x's gains is the argument. -/
theorem blk0 (k : Fin 2) : (iblk m c 0 t : Vec Ideal S2 .f32) (ix1 k) = m ((c : Thread nD τ).loc main_arg2) (ix1 k) := by
  blk_ext! [iblk, V, idx0 t]

/-- The block of the weights' gain is the argument. -/
theorem blk1 (k : Fin 1) : (iblk m c 1 t : Vec Ideal S1 .f32) (ix1 k) = m ((c : Thread nD τ).loc main_arg5) (ix1 k) := by
  blk_ext! [iblk, V, idx1 t]

/-- The block of x's codes is the argument without its leading axis of size one. -/
theorem blk2 (i : Fin 128) (j : Fin 2048) : (iblk m c 2 t : Vec Ideal S128x2048 .i8) (ix2 i j) = m ((c : Thread nD τ).loc main_arg0) (ix3 0 i j) := by
  blk_ext! [iblk, V, idx2 t]

/-- The block of x's scales is the argument without its leading axis of size one. -/
theorem blk3 (i : Fin 128) (j : Fin 256) : (iblk m c 3 t : Vec Ideal S128x256 .fp8e4m3) (ix2 i j) = m ((c : Thread nD τ).loc main_arg1) (ix3 0 i j) := by
  blk_ext! [iblk, V, idx3 t]

/-- Column block `t` of the weights' codes at an index. -/
theorem blk4 (ht : t.val < 7) (k : Fin 2048) (n : Fin 2048) :
    (iblk m c 4 t : Vec Ideal S2048x2048 .i8) (ix2 k n) = m ((c : Thread nD τ).loc main_arg3) (ix2 k ⟨2048 * t.val + n.val, by omega⟩) := by
  blk_ext! [iblk, V, idx4 t]

/-- Column block `t` of the weights' scales at an index. -/
theorem blk5 (ht : t.val < 7) (k : Fin 256) (n : Fin 2048) :
    (iblk m c 5 t : Vec Ideal S256x2048 .fp8e4m3) (ix2 k n) = m ((c : Thread nD τ).loc main_arg4) (ix2 k ⟨2048 * t.val + n.val, by omega⟩) := by
  blk_ext! [iblk, V, idx5 t]

end Cert.KernelIdeal.Val
-- ==== Proof.Tile.lean ====
module

public import proofs.«01_k».proof.KernelIdeal
public import Idealize.ShloMosaic.Lib.Pointwise
public import Idealize.ShloMosaic.Lib.BitcastPair
public import Idealize.ShloMosaic.Lib.Pipeline.Value

/-!
# One weight tile of one loop trip

A trip of the kernel's loop takes a [128, 512] block of packed weight bytes, turns each byte into two bf16 values (low
nibble, high nibble), lays them out as a [256, 512] tile whose row `2 l + p` is nibble `p` of byte row `l`, and
multiplies each band of sixteen rows by the block scales of that band. This module writes that computation once, as
definitions built from the same operations the printed program uses, and reads it at an index.
-/

@[expose] public section

noncomputable section

namespace Cert.KernelIdeal.Val

open Idealize.ShloMosaic Cert.KernelIdeal

variable {F : FTy → Type} [FloatOps F] [Facts₀]
open Facts₀

/-- The bf16 bit pattern of a four-bit float code, one code per 32-bit word. -/
abbrev bitsOf {s : Shape} (n : IVec s 32) : IVec s 32 :=
  ori (select (cmpi .ult (andi n (broadcast s 7#32)) (broadcast s 2#32)) (muli (andi n (broadcast s 1#32)) (broadcast s 16128#32))
    (addi (broadcast s 16128#32) (shli (andi n (broadcast s 7#32)) (broadcast s 6#32))))
    (shli (andi n (broadcast s 8#32)) (broadcast s 12#32))

/-- The 32-bit word holding both nibbles of a byte as bf16 patterns: the low nibble below, the high nibble above. -/
abbrev wordsOf {s : Shape} (v : IVec s 8) : IVec s 32 :=
  ori (bitsOf (andi (extui 32 v natLt_8_32) (broadcast s 15#32)))
    (shli (bitsOf (shrui (extui 32 v natLt_8_32) (broadcast s 4#32))) (broadcast s 16#32))

/-- The decoded [256, 512] tile of a block of weight bytes, before scaling. -/
abbrev decW (v : IVec S128x512 8) : FVec F S256x512 .bf16 :=
  bitcastToFloat .bf16 (bitcast S256x512 16 (wordsOf v) bitcasts_S128x512_w32_S256x512_w16)

/-- One half (parity `p`) of one loaded row of scale words. -/
abbrev half (p : Fin 2) (raw : FVec F S1x1x2x128 .bf16) : FVec F S1x128 .bf16 :=
  shapeCast S1x128 (shapeCast S1x1x128 (rowsOfParity p S1x1x1x128 raw bitcasts_S1x1x2x128_w16_S1x1x1x128_w32)
    shapeCasts_S1x1x1x128_S1x1x128) shapeCasts_S1x1x128_S1x128

/-- Eight copies of a row. -/
abbrev rep (x : FVec F S1x128 .bf16) : FVec F S8x128 .bf16 :=
  concatenate S8x128 0 [⟨S1x128, x⟩, ⟨S1x128, x⟩, ⟨S1x128, x⟩, ⟨S1x128, x⟩, ⟨S1x128, x⟩, ⟨S1x128, x⟩, ⟨S1x128, x⟩, ⟨S1x128, x⟩]
    concatenates_S1x128_S1x128_S1x128_S1x128_S1x128_S1x128_S1x128_S1x128_S8x128_d0

/-- The [16, 512] band of scales made of four loaded rows of scale words. -/
def band (r0 r1 r2 r3 : FVec F S1x1x2x128 .bf16) : FVec F S16x512 .bf16 :=
  interleaveRows S16x512
    (concatenate S8x512 1 [⟨S8x128, rep (half 0 r0)⟩, ⟨S8x128, rep (half 0 r1)⟩, ⟨S8x128, rep (half 0 r2)⟩, ⟨S8x128, rep (half 0 r3)⟩]
      concatenates_S8x128_S8x128_S8x128_S8x128_S8x512_d1)
    (concatenate S8x512 1 [⟨S8x128, rep (half 1 r0)⟩, ⟨S8x128, rep (half 1 r1)⟩, ⟨S8x128, rep (half 1 r2)⟩, ⟨S8x128, rep (half 1 r3)⟩]
      concatenates_S8x128_S8x128_S8x128_S8x128_S8x512_d1)
    bitcasts_S16x512_w16_S8x512_w32

/-- The scaled [256, 512] tile: sixteen bands of sixteen rows, band `b` times its own scales. -/
def tile (v : IVec S128x512 8) (B : Fin 16 → FVec F S16x512 .bf16) : FVec F S256x512 .bf16 :=
  concatenate S256x512 0 [
    ⟨S16x512, mulf (extractStridedSlice S16x512 ![0, 0] (decW v) slices_S256x512_o0_0_S16x512) (B 0)⟩,
    ⟨S16x512, mulf (extractStridedSlice S16x512 ![16, 0] (decW v) slices_S256x512_o16_0_S16x512) (B 1)⟩,
    ⟨S16x512, mulf (extractStridedSlice S16x512 ![32, 0] (decW v) slices_S256x512_o32_0_S16x512) (B 2)⟩,
    ⟨S16x512, mulf (extractStridedSlice S16x512 ![48, 0] (decW v) slices_S256x512_o48_0_S16x512) (B 3)⟩,
    ⟨S16x512, mulf (extractStridedSlice S16x512 ![64, 0] (decW v) slices_S256x512_o64_0_S16x512) (B 4)⟩,
    ⟨S16x512, mulf (extractStridedSlice S16x512 ![80, 0] (decW v) slices_S256x512_o80_0_S16x512) (B 5)⟩,
    ⟨S16x512, mulf (extractStridedSlice S16x512 ![96, 0] (decW v) slices_S256x512_o96_0_S16x512) (B 6)⟩,
    ⟨S16x512, mulf (extractStridedSlice S16x512 ![112, 0] (decW v) slices_S256x512_o112_0_S16x512) (B 7)⟩,
    ⟨S16x512, mulf (extractStridedSlice S16x512 ![128, 0] (decW v) slices_S256x512_o128_0_S16x512) (B 8)⟩,
    ⟨S16x512, mulf (extractStridedSlice S16x512 ![144, 0] (decW v) slices_S256x512_o144_0_S16x512) (B 9)⟩,
    ⟨S16x512, mulf (extractStridedSlice S16x512 ![160, 0] (decW v) slices_S256x512_o160_0_S16x512) (B 10)⟩,
    ⟨S16x512, mulf (extractStridedSlice S16x512 ![176, 0] (decW v) slices_S256x512_o176_0_S16x512) (B 11)⟩,
    ⟨S16x512, mulf (extractStridedSlice S16x512 ![192, 0] (decW v) slices_S256x512_o192_0_S16x512) (B 12)⟩,
    ⟨S16x512, mulf (extractStridedSlice S16x512 ![208, 0] (decW v) slices_S256x512_o208_0_S16x512) (B 13)⟩,
    ⟨S16x512, mulf (extractStridedSlice S16x512 ![224, 0] (decW v) slices_S256x512_o224_0_S16x512) (B 14)⟩,
    ⟨S16x512, mulf (extractStridedSlice S16x512 ![240, 0] (decW v) slices_S256x512_o240_0_S16x512) (B 15)⟩]
    concatenates_S16x512_S16x512_S16x512_S16x512_S16x512_S16x512_S16x512_S16x512_S16x512_S16x512_S16x512_S16x512_S16x512_S16x512_S16x512_S16x512_S256x512_d0

/-- One trip: the tile's product with the slice of x, alone on the first trip and added to the carried sum after. -/
def trip (iv : BitVec 32) (x : FVec F S128x256 .bf16) (w : FVec F S256x512 .bf16) (acc : FVec F S128x512 .f32) : FVec F S128x512 .f32 :=
  Scalar.select (Scalar.cmpi .eq iv 0#32)
    (matmul dot_S128x256_S256x512_S128x512_1_0_0_1_n_n none x w (constant S128x512 .f32 0x00000000#32))
    (addf acc (matmul dot_S128x256_S256x512_S128x512_1_0_0_1_n_n none x w (constant S128x512 .f32 0x00000000#32)))

/-- Eight copies of a row, at an index. -/
theorem rep_apply (x : FVec F S1x128 .bf16) (a : Fin 8) (l : Fin 128) : rep x (ix2 a l) = x (ix2 0 l) :=
  concatenate_replicate_apply (t := S8x128) 0 8 x concatenates_S1x128_S1x128_S1x128_S1x128_S1x128_S1x128_S1x128_S1x128_S8x128_d0 rfl
    (ix2 a l) (ix2 0 l) (by show 0 = a.val % 1; omega) (fun b hb => by
      match b with
      | ⟨0, _⟩ => exact absurd rfl hb
      | ⟨1, _⟩ => rfl)

/-- One half of a loaded row of scale words, at an index. -/
theorem half_apply (p : Fin 2) (raw : FVec F S1x1x2x128 .bf16) (l : Fin 128) : half p raw (ix2 0 l) = raw (ix4 0 0 p l) := by
  pointwise

/-- A row of four groups of 128 lanes, at an index. -/
theorem row_apply (f : Fin 4 → FVec F S8x128 .bf16) (a : Fin 8) (n : Fin 512) :
    concatenate S8x512 1 [⟨S8x128, f 0⟩, ⟨S8x128, f 1⟩, ⟨S8x128, f 2⟩, ⟨S8x128, f 3⟩]
      concatenates_S8x128_S8x128_S8x128_S8x128_S8x512_d1 (ix2 a n)
      = f ⟨n.val / 128, by omega⟩ (ix2 a ⟨n.val % 128, by omega⟩) :=
  concatenate_ofFn_apply (t := S8x512) 1 f concatenates_S8x128_S8x128_S8x128_S8x128_S8x512_d1 rfl 128 rfl (ix2 a n)
    ⟨n.val / 128, by omega⟩ rfl (ix2 a ⟨n.val % 128, by omega⟩) rfl (fun b hb => by
      match b with
      | ⟨0, _⟩ => rfl
      | ⟨1, _⟩ => exact absurd rfl hb)

/-- Two [8, 512] arrays interleaved by rows, at an index. -/
theorem inter_apply (lo hi : FVec F S8x512 .bf16) (a : Fin 16) (n : Fin 512) :
    interleaveRows S16x512 lo hi bitcasts_S16x512_w16_S8x512_w32 (ix2 a n)
      = if a.val % 2 = 0 then lo (ix2 ⟨a.val / 2, by omega⟩ n) else hi (ix2 ⟨a.val / 2, by omega⟩ n) := by
  pointwise

/-- A band at an index: row parity picks the half, the column picks the word row and the lane. -/
theorem band_apply (r : Fin 4 → FVec F S1x1x2x128 .bf16) (a : Fin 16) (n : Fin 512) :
    band (r 0) (r 1) (r 2) (r 3) (ix2 a n)
      = r ⟨n.val / 128, by omega⟩ (ix4 0 0 ⟨a.val % 2, by omega⟩ ⟨n.val % 128, by omega⟩) := by
  unfold band
  rw [inter_apply, row_apply fun q => rep (half 0 (r q)), row_apply fun q => rep (half 1 (r q)), rep_apply, rep_apply, half_apply,
    half_apply]
  split
  · congr 2; apply Fin.ext; simp [*]
  · congr 2; apply Fin.ext; simp; omega

/-- The scaled tile at an index: the decoded tile times the band's scale. -/
theorem tile_apply (v : IVec S128x512 8) (B : Fin 16 → FVec F S16x512 .bf16) (k : Fin 256) (n : Fin 512) :
    tile v B (ix2 k n) = FloatOps.mulf (decW v (ix2 k n)) (B ⟨k.val / 16, by omega⟩ (ix2 ⟨k.val % 16, by omega⟩ n)) := by
  unfold tile
  generalize decW (F := F) v = d
  have hs : ∀ b : Fin 16, S256x512.Slices ![16 * b.val, 0] S16x512 := fun b => by
    revert b; decide
  have e := concatenate_ofFn_apply (t := S256x512) 0 (N := 16)
    (fun b : Fin 16 => mulf (extractStridedSlice S16x512 ![16 * b.val, 0] d (hs b)) (B b))
    concatenates_S16x512_S16x512_S16x512_S16x512_S16x512_S16x512_S16x512_S16x512_S16x512_S16x512_S16x512_S16x512_S16x512_S16x512_S16x512_S16x512_S256x512_d0
    rfl 16 rfl (ix2 k n) ⟨k.val / 16, by omega⟩ rfl (ix2 ⟨k.val % 16, by omega⟩ n) rfl (fun b hb => by
      match b with
      | ⟨0, _⟩ => exact absurd rfl hb
      | ⟨1, _⟩ => rfl)
  refine e.trans ?_
  pointwise
  congr 2
  exact congrArg (fun z => ix2 z n) (Fin.ext (Nat.div_add_mod k.val 16))

end Cert.KernelIdeal.Val
-- ==== Proof.Trip.lean ====
module

public import proofs.«01_k».proof.Proof.Gen.KernelIdeal.Loops
public import proofs.«01_k».proof.Proof.Tile
public import Idealize.ShloMosaic.Lib.Tactic

/-!
# What each loop trip yields

The kernel runs four loops of sixteen trips, one per group of 512 output columns. Each loop's trip yields
`Cert.KernelIdeal.Val.trip` of the slice of x, the scaled weight tile and the carried sum, read from the three buffers
the trip loads from. The four statements hold by unfolding.
-/

@[expose] public section

set_option maxRecDepth 20000
set_option maxHeartbeats 4000000

noncomputable section

namespace Cert.KernelIdeal.Val

open Idealize.ShloMosaic Idealize.ShloMosaic.TcCoe Idealize.SL.Sem Cert.KernelIdeal Cert.KernelIdeal.Gen

variable {F : FTy → Type} [FloatOps F]

/-- A trip of loop 0 (output columns 0 to 511 of the block). -/
theorem tripR1 (𝒱 : Variants) (c : Dev nD) (bd : Option 𝒱.V) (i : grid0.Coords) (arg1 : Memref sig .tc .smem S2 .f32) (harg1 : arg1.IsWhole) (arg2 : Memref sig .tc .smem S1 .f32) (harg2 : arg2.IsWhole) (arg3 : Memref sig .tc .vmem S128x2048 .i8) (harg3 : arg3.IsWhole) (arg4 : Memref sig .tc .vmem S128x256 .fp8e4m3) (harg4 : arg4.IsWhole) (arg5 : Memref sig .tc .vmem S2048x2048 .i8) (harg5 : arg5.IsWhole) (arg6 : Memref sig .tc .vmem S256x2048 .fp8e4m3) (harg6 : arg6.IsWhole) (arg7 : Memref sig .tc .vmem S128x2048 .bf16) (harg7 : arg7.IsWhole) (arg8 : Memref sig .tc .vmem S128x4096 .bf16) (harg8 : arg8.IsWhole) (arg9 : Memref sig .tc .vmem S16x256x2x128 .bf16) (harg9 : arg9.IsWhole) (v99 : FVec F S128x512 .f32) (c0_i32_50 : BitVec 32) (X_arg5 : BufTy.Contents (Elt F) arg5.view.ty) (X_arg8 : BufTy.Contents (Elt F) arg8.view.ty) (X_arg9 : BufTy.Contents (Elt F) arg9.view.ty) (k : Fin k0_t1_loop.trips) (acc : FVec F S128x512 .f32) :
    tripR_k0_t1 (F := F) 𝒱 c bd i arg1 harg1 arg2 harg2 arg3 harg3 arg4 harg4 arg5 harg5 arg6 harg6 arg7 harg7 arg8 harg8 arg9 harg9 v99 c0_i32_50 X_arg5 X_arg8 X_arg9 k acc
      = trip (Scf.iv c0_i32_50 1#32 k) (View.ld (arg8.view.read (Elt F) X_arg8) (Rect.unit (s := S128x4096) (k0_off6 k) S128x256.size (k0_off6_inb k)))
          (tile (View.ld (arg5.view.read (Elt F) X_arg5) (Rect.unit (s := S2048x2048) (k0_off1 k) S128x512.size (k0_off1_inb k)))
            (fun b : Fin 16 => band (View.ld (arg9.view.read (Elt F) X_arg9) (Rect.unit (s := S16x256x2x128) (k0_off2 k (BitVec.ofNat 32 b.val)) S1x1x2x128.size (k0_off2_inb k b))) (View.ld (arg9.view.read (Elt F) X_arg9) (Rect.unit (s := S16x256x2x128) (k0_off3 k (BitVec.ofNat 32 b.val)) S1x1x2x128.size (k0_off3_inb k b))) (View.ld (arg9.view.read (Elt F) X_arg9) (Rect.unit (s := S16x256x2x128) (k0_off4 k (BitVec.ofNat 32 b.val)) S1x1x2x128.size (k0_off4_inb k b))) (View.ld (arg9.view.read (Elt F) X_arg9) (Rect.unit (s := S16x256x2x128) (k0_off5 k (BitVec.ofNat 32 b.val)) S1x1x2x128.size (k0_off5_inb k b))))) acc := by
  unfold tripR_k0_t1 trip_k0_t1
  dsimp only
  sl_unfold_words
  rfl

/-- A trip of loop 1 (output columns 512 to 1023 of the block). -/
theorem tripR2 (𝒱 : Variants) (c : Dev nD) (bd : Option 𝒱.V) (i : grid0.Coords) (arg1 : Memref sig .tc .smem S2 .f32) (harg1 : arg1.IsWhole) (arg2 : Memref sig .tc .smem S1 .f32) (harg2 : arg2.IsWhole) (arg3 : Memref sig .tc .vmem S128x2048 .i8) (harg3 : arg3.IsWhole) (arg4 : Memref sig .tc .vmem S128x256 .fp8e4m3) (harg4 : arg4.IsWhole) (arg5 : Memref sig .tc .vmem S2048x2048 .i8) (harg5 : arg5.IsWhole) (arg6 : Memref sig .tc .vmem S256x2048 .fp8e4m3) (harg6 : arg6.IsWhole) (arg7 : Memref sig .tc .vmem S128x2048 .bf16) (harg7 : arg7.IsWhole) (arg8 : Memref sig .tc .vmem S128x4096 .bf16) (harg8 : arg8.IsWhole) (arg9 : Memref sig .tc .vmem S16x256x2x128 .bf16) (harg9 : arg9.IsWhole) (v99 : FVec F S128x512 .f32) (c0_i32_50 : BitVec 32) (X_arg5 : BufTy.Contents (Elt F) arg5.view.ty) (X_arg8 : BufTy.Contents (Elt F) arg8.view.ty) (X_arg9 : BufTy.Contents (Elt F) arg9.view.ty) (k : Fin k0_t2_loop.trips) (acc : FVec F S128x512 .f32) :
    tripR_k0_t2 (F := F) 𝒱 c bd i arg1 harg1 arg2 harg2 arg3 harg3 arg4 harg4 arg5 harg5 arg6 harg6 arg7 harg7 arg8 harg8 arg9 harg9 v99 c0_i32_50 X_arg5 X_arg8 X_arg9 k acc
      = trip (Scf.iv 0#32 1#32 k) (View.ld (arg8.view.read (Elt F) X_arg8) (Rect.unit (s := S128x4096) (k0_off12 k) S128x256.size (k0_off12_inb k)))
          (tile (View.ld (arg5.view.read (Elt F) X_arg5) (Rect.unit (s := S2048x2048) (k0_off7 k) S128x512.size (k0_off7_inb k)))
            (fun b : Fin 16 => band (View.ld (arg9.view.read (Elt F) X_arg9) (Rect.unit (s := S16x256x2x128) (k0_off8 k (BitVec.ofNat 32 b.val)) S1x1x2x128.size (k0_off8_inb k b))) (View.ld (arg9.view.read (Elt F) X_arg9) (Rect.unit (s := S16x256x2x128) (k0_off9 k (BitVec.ofNat 32 b.val)) S1x1x2x128.size (k0_off9_inb k b))) (View.ld (arg9.view.read (Elt F) X_arg9) (Rect.unit (s := S16x256x2x128) (k0_off10 k (BitVec.ofNat 32 b.val)) S1x1x2x128.size (k0_off10_inb k b))) (View.ld (arg9.view.read (Elt F) X_arg9) (Rect.unit (s := S16x256x2x128) (k0_off11 k (BitVec.ofNat 32 b.val)) S1x1x2x128.size (k0_off11_inb k b))))) acc := by
  unfold tripR_k0_t2 trip_k0_t2
  dsimp only
  sl_unfold_words
  rfl

/-- A trip of loop 2 (output columns 1024 to 1535 of the block). -/
theorem tripR3 (𝒱 : Variants) (c : Dev nD) (bd : Option 𝒱.V) (i : grid0.Coords) (arg1 : Memref sig .tc .smem S2 .f32) (harg1 : arg1.IsWhole) (arg2 : Memref sig .tc .smem S1 .f32) (harg2 : arg2.IsWhole) (arg3 : Memref sig .tc .vmem S128x2048 .i8) (harg3 : arg3.IsWhole) (arg4 : Memref sig .tc .vmem S128x256 .fp8e4m3) (harg4 : arg4.IsWhole) (arg5 : Memref sig .tc .vmem S2048x2048 .i8) (harg5 : arg5.IsWhole) (arg6 : Memref sig .tc .vmem S256x2048 .fp8e4m3) (harg6 : arg6.IsWhole) (arg7 : Memref sig .tc .vmem S128x2048 .bf16) (harg7 : arg7.IsWhole) (arg8 : Memref sig .tc .vmem S128x4096 .bf16) (harg8 : arg8.IsWhole) (arg9 : Memref sig .tc .vmem S16x256x2x128 .bf16) (harg9 : arg9.IsWhole) (v135 : FVec F S64x512 .f32) (v136 : Elt F .f32) (X_arg5 : BufTy.Contents (Elt F) arg5.view.ty) (X_arg8 : BufTy.Contents (Elt F) arg8.view.ty) (X_arg9 : BufTy.Contents (Elt F) arg9.view.ty) (k : Fin k0_t3_loop.trips) (acc : FVec F S128x512 .f32) :
    tripR_k0_t3 (F := F) 𝒱 c bd i arg1 harg1 arg2 harg2 arg3 harg3 arg4 harg4 arg5 harg5 arg6 harg6 arg7 harg7 arg8 harg8 arg9 harg9 v135 v136 X_arg5 X_arg8 X_arg9 k acc
      = trip (Scf.iv 0#32 1#32 k) (View.ld (arg8.view.read (Elt F) X_arg8) (Rect.unit (s := S128x4096) (k0_off18 k) S128x256.size (k0_off18_inb k)))
          (tile (View.ld (arg5.view.read (Elt F) X_arg5) (Rect.unit (s := S2048x2048) (k0_off13 k) S128x512.size (k0_off13_inb k)))
            (fun b : Fin 16 => band (View.ld (arg9.view.read (Elt F) X_arg9) (Rect.unit (s := S16x256x2x128) (k0_off14 k (BitVec.ofNat 32 b.val)) S1x1x2x128.size (k0_off14_inb k b))) (View.ld (arg9.view.read (Elt F) X_arg9) (Rect.unit (s := S16x256x2x128) (k0_off15 k (BitVec.ofNat 32 b.val)) S1x1x2x128.size (k0_off15_inb k b))) (View.ld (arg9.view.read (Elt F) X_arg9) (Rect.unit (s := S16x256x2x128) (k0_off16 k (BitVec.ofNat 32 b.val)) S1x1x2x128.size (k0_off16_inb k b))) (View.ld (arg9.view.read (Elt F) X_arg9) (Rect.unit (s := S16x256x2x128) (k0_off17 k (BitVec.ofNat 32 b.val)) S1x1x2x128.size (k0_off17_inb k b))))) acc := by
  unfold tripR_k0_t3 trip_k0_t3
  dsimp only
  sl_unfold_words
  rfl

/-- A trip of loop 3 (output columns 1536 to 2047 of the block). -/
theorem tripR4 (𝒱 : Variants) (c : Dev nD) (bd : Option 𝒱.V) (i : grid0.Coords) (arg1 : Memref sig .tc .smem S2 .f32) (harg1 : arg1.IsWhole) (arg2 : Memref sig .tc .smem S1 .f32) (harg2 : arg2.IsWhole) (arg3 : Memref sig .tc .vmem S128x2048 .i8) (harg3 : arg3.IsWhole) (arg4 : Memref sig .tc .vmem S128x256 .fp8e4m3) (harg4 : arg4.IsWhole) (arg5 : Memref sig .tc .vmem S2048x2048 .i8) (harg5 : arg5.IsWhole) (arg6 : Memref sig .tc .vmem S256x2048 .fp8e4m3) (harg6 : arg6.IsWhole) (arg7 : Memref sig .tc .vmem S128x2048 .bf16) (harg7 : arg7.IsWhole) (arg8 : Memref sig .tc .vmem S128x4096 .bf16) (harg8 : arg8.IsWhole) (arg9 : Memref sig .tc .vmem S16x256x2x128 .bf16) (harg9 : arg9.IsWhole) (v135 : FVec F S64x512 .f32) (v136 : Elt F .f32) (X_arg5 : BufTy.Contents (Elt F) arg5.view.ty) (X_arg8 : BufTy.Contents (Elt F) arg8.view.ty) (X_arg9 : BufTy.Contents (Elt F) arg9.view.ty) (k : Fin k0_t4_loop.trips) (acc : FVec F S128x512 .f32) :
    tripR_k0_t4 (F := F) 𝒱 c bd i arg1 harg1 arg2 harg2 arg3 harg3 arg4 harg4 arg5 harg5 arg6 harg6 arg7 harg7 arg8 harg8 arg9 harg9 v135 v136 X_arg5 X_arg8 X_arg9 k acc
      = trip (Scf.iv 0#32 1#32 k) (View.ld (arg8.view.read (Elt F) X_arg8) (Rect.unit (s := S128x4096) (k0_off24 k) S128x256.size (k0_off24_inb k)))
          (tile (View.ld (arg5.view.read (Elt F) X_arg5) (Rect.unit (s := S2048x2048) (k0_off19 k) S128x512.size (k0_off19_inb k)))
            (fun b : Fin 16 => band (View.ld (arg9.view.read (Elt F) X_arg9) (Rect.unit (s := S16x256x2x128) (k0_off20 k (BitVec.ofNat 32 b.val)) S1x1x2x128.size (k0_off20_inb k b))) (View.ld (arg9.view.read (Elt F) X_arg9) (Rect.unit (s := S16x256x2x128) (k0_off21 k (BitVec.ofNat 32 b.val)) S1x1x2x128.size (k0_off21_inb k b))) (View.ld (arg9.view.read (Elt F) X_arg9) (Rect.unit (s := S16x256x2x128) (k0_off22 k (BitVec.ofNat 32 b.val)) S1x1x2x128.size (k0_off22_inb k b))) (View.ld (arg9.view.read (Elt F) X_arg9) (Rect.unit (s := S16x256x2x128) (k0_off23 k (BitVec.ofNat 32 b.val)) S1x1x2x128.size (k0_off23_inb k b))))) acc := by
  unfold tripR_k0_t4 trip_k0_t4
  dsimp only
  sl_unfold_words
  rfl

end Cert.KernelIdeal.Val
-- ==== Proof.Part.lean ====
module

public import proofs.«01_k».proof.Proof.Tile
public import Idealize.ShloMosaic.Lib.Pipeline.ValueKit.Tiles

/-!
# One trip at an index, at the ideal instance

At the ideal instance a trip adds to the carried sum the products of 256 consecutive columns of x with 256 consecutive
rows of the scaled weights. `part` is that contribution written with the three arrays the trip reads; `trip_part` says
that a trip yields it.
-/

@[expose] public section

noncomputable section

namespace Cert.KernelIdeal.Val

open Idealize.ShloMosaic Cert.KernelIdeal

variable [Facts₀]
open Facts₀

/-- The word of two bf16 patterns a byte of codes decodes to. -/
def wordOf (b : BitVec 8) : BitVec 32 := wordsOf (s := S1) (fun _ => b) (ix1 0)

/-- The value of nibble `p` of a byte: half `p` of the byte's word, read as a bf16. -/
def code (b : BitVec 8) (p : Fin 2) : EReal := Ideal.ofBits .bf16 ((wordOf b).extractLsb' (16 * p.val) 16)

/-- The decoded weight tile at an index: row `k` is nibble `k % 2` of byte row `k / 2`. -/
theorem decW_apply (v : IVec S128x512 8) (k : Fin 256) (n : Fin 512) :
    decW (F := Ideal) v (ix2 k n) = code (v (ix2 ⟨k.val / 2, by omega⟩ n)) ⟨k.val % 2, by omega⟩ := by
  unfold decW
  rw [bitcastToFloat_apply, bitcast_32_16]
  show Ideal.ofBits .bf16 ((wordOf (v _)).extractLsb' (16 * (k.val % 2)) 16) = _
  unfold code
  congr 4
  funext a
  match a with
  | ⟨0, _⟩ => rfl
  | ⟨1, _⟩ => rfl

/-- What trip `t` adds at row `i`, block column `n`. -/
def part (X : FVec Ideal S128x4096 .bf16) (wc : IVec S2048x2048 8) (S : FVec Ideal S16x256x2x128 .bf16)
    (i : Fin 128) (n : Fin 2048) (t : ℕ) : EReal :=
  if h : t < 16 then ∑ k : Fin 256, X (ix2 i ⟨256 * t + k.val, by omega⟩)
    * (code (wc (ix2 ⟨128 * t + k.val / 2, by omega⟩ n)) ⟨k.val % 2, by omega⟩
      * S (ix4 ⟨n.val / 128, by omega⟩ ⟨16 * t + k.val / 16, by omega⟩ ⟨k.val % 2, by omega⟩ ⟨n.val % 128, by omega⟩))
  else 0

/-- A trip at an index: the dot product of a row of x with a column of the tile, added to the carried sum but on trip 0. -/
theorem trip_apply (iv : BitVec 32) (x : FVec Ideal S128x256 .bf16) (w : FVec Ideal S256x512 .bf16) (acc : FVec Ideal S128x512 .f32)
    (i : Fin 128) (n : Fin 512) :
    trip iv x w acc (ix2 i n) = (if iv = 0#32 then 0 else acc (ix2 i n)) + ∑ k : Fin 256, x (ix2 i k) * w (ix2 k n) := by
  by_cases h : iv = 0#32
  · subst h
    have e : Scalar.cmpi .eq (0#32) (0#32) = 1#1 := by decide
    rw [if_pos rfl]
    unfold trip
    rw [e]
    pointwise
  · have e : Scalar.cmpi .eq iv (0#32) = 0#1 := by
      have hb : (iv == 0#32) = false := by simp [h]
      show BitVec.ofBool (iv == 0#32) = 0#1
      rw [hb]; rfl
    rw [if_neg h]
    unfold trip
    rw [e]
    pointwise

/-- A trip reading its three blocks at the offsets of group `g`, trip `t`. -/
theorem trip_part (X : FVec Ideal S128x4096 .bf16) (wc : IVec S2048x2048 8) (S : FVec Ideal S16x256x2x128 .bf16)
    (g : Fin 4) (t : Fin 16) (iv : BitVec 32) (acc : FVec Ideal S128x512 .f32)
    (oX : Fin 2 → ℕ) (iX) (hX : oX = ![0, 256 * t.val]) (oW : Fin 2 → ℕ) (iW) (hW : oW = ![128 * t.val, 512 * g.val])
    (oS : Fin 4 → Fin 16 → Fin 4 → ℕ) (iS : ∀ q b a, oS q b a + S1x1x2x128.size a ≤ S16x256x2x128.size a)
    (hS : ∀ q b, oS q b = ![4 * g.val + q.val, 16 * t.val + b.val, 0, 0]) (i : Fin 128) (n : Fin 512) :
    trip iv (View.ld (Val := Elt Ideal) (e' := .bf16) X (Rect.unit (s := S128x4096) oX S128x256.size iX))
      (tile (View.ld (Val := Elt Ideal) (e' := .i8) wc (Rect.unit (s := S2048x2048) oW S128x512.size iW))
        (fun b => band (View.ld (Val := Elt Ideal) (e' := .bf16) S (Rect.unit (s := S16x256x2x128) (oS 0 b) S1x1x2x128.size (iS 0 b)))
          (View.ld (Val := Elt Ideal) (e' := .bf16) S (Rect.unit (s := S16x256x2x128) (oS 1 b) S1x1x2x128.size (iS 1 b)))
          (View.ld (Val := Elt Ideal) (e' := .bf16) S (Rect.unit (s := S16x256x2x128) (oS 2 b) S1x1x2x128.size (iS 2 b)))
          (View.ld (Val := Elt Ideal) (e' := .bf16) S (Rect.unit (s := S16x256x2x128) (oS 3 b) S1x1x2x128.size (iS 3 b))))) acc (ix2 i n)
      = (if iv = 0#32 then 0 else acc (ix2 i n)) + part X wc S i ⟨512 * g.val + n.val, by omega⟩ t.val := by
  obtain rfl : oS = fun q b => ![4 * g.val + q.val, 16 * t.val + b.val, 0, 0] := funext fun q => funext (hS q)
  rw [trip_apply, part, dif_pos t.isLt]
  congr 1
  refine Finset.sum_congr rfl fun k _ => ?_
  have hb := band_apply (F := Ideal) (fun q => View.ld (Val := Elt Ideal) (e' := .bf16) S
    (Rect.unit (s := S16x256x2x128) (![4 * g.val + q.val, 16 * t.val + k.val / 16, 0, 0]) S1x1x2x128.size (iS q ⟨k.val / 16, by omega⟩))) ⟨k.val % 16, by omega⟩ n
  dsimp only at hb
  rw [tile_apply, hb, decW_apply]
  rw [View.ld_apply, View.ld_apply, View.ld_apply]
  refine congrArg₂ (· * ·) (congrArg X ?_) (congrArg₂ (· * ·) (congrArg (fun z => code (wc z) _) ?_) (congrArg S ?_))
  · subst hX
    funext a
    match a with
    | ⟨0, _⟩ => exact Fin.ext (by simp [Rect.idx_unit_val])
    | ⟨1, _⟩ => exact Fin.ext (by simp [Rect.idx_unit_val])
  · subst hW
    funext a
    match a with
    | ⟨0, _⟩ => exact Fin.ext (by simp [Rect.idx_unit_val])
    | ⟨1, _⟩ => exact Fin.ext (by simp [Rect.idx_unit_val])
  · funext a
    match a with
    | ⟨0, _⟩ => exact Fin.ext (by simp [Rect.idx_unit_val]; omega)
    | ⟨1, _⟩ => exact Fin.ext (by simp [Rect.idx_unit_val])
    | ⟨2, _⟩ => exact Fin.ext (by simp [Rect.idx_unit_val])
    | ⟨3, _⟩ => exact Fin.ext (by simp [Rect.idx_unit_val]; omega)

end Cert.KernelIdeal.Val
-- ==== Proof.Loop.lean ====
module

public import proofs.«01_k».proof.Proof.Trip
public import proofs.«01_k».proof.Proof.Part

/-!
# What each loop ends with

At the ideal instance, after `K` trips from a zero start, each of the four loops carries the sum of the first `K`
trips' contributions (`Cert.KernelIdeal.Val.part`). One statement per loop, by induction on `K`.
-/

@[expose] public section

set_option maxHeartbeats 1000000

noncomputable section

namespace Cert.KernelIdeal.Val

open Idealize.ShloMosaic Idealize.ShloMosaic.TcCoe Idealize.SL.Sem Cert.KernelIdeal Cert.KernelIdeal.Gen

/-- The loop counter is the zero word on trip 0 alone. -/
theorem iv_eq_zero : ∀ t : Fin 16, (Scf.iv (0#32) 1#32 t.val = 0#32 ↔ t.val = 0) := by decide

/-- The step of the induction: a carried sum of the first `t` contributions (zero when `t = 0`) becomes that of the first `t + 1`. -/
theorem sum_step (p : ℕ → EReal) (t : Fin 16) (a : EReal) (ha : a = ∑ u ∈ Finset.range t.val, p u) :
    (if Scf.iv (0#32) 1#32 t.val = 0#32 then 0 else a) + p t.val = ∑ u ∈ Finset.range (t.val + 1), p u := by
  rw [Finset.sum_range_succ, ← ha]
  by_cases h : t.val = 0
  · rw [if_pos ((iv_eq_zero t).mpr h), ha, h, Finset.sum_range_zero]
  · rw [if_neg (fun e => h ((iv_eq_zero t).mp e))]

/-- Loop 0 after `K` trips, at row `i`, column `0 + n` of the block. -/
theorem st1 (𝒱 : Variants) (c : Dev nD) (bd : Option 𝒱.V) (i : grid0.Coords) (arg1 : Memref sig .tc .smem S2 .f32) (harg1 : arg1.IsWhole) (arg2 : Memref sig .tc .smem S1 .f32) (harg2 : arg2.IsWhole) (arg3 : Memref sig .tc .vmem S128x2048 .i8) (harg3 : arg3.IsWhole) (arg4 : Memref sig .tc .vmem S128x256 .fp8e4m3) (harg4 : arg4.IsWhole) (arg5 : Memref sig .tc .vmem S2048x2048 .i8) (harg5 : arg5.IsWhole) (arg6 : Memref sig .tc .vmem S256x2048 .fp8e4m3) (harg6 : arg6.IsWhole) (arg7 : Memref sig .tc .vmem S128x2048 .bf16) (harg7 : arg7.IsWhole) (arg8 : Memref sig .tc .vmem S128x4096 .bf16) (harg8 : arg8.IsWhole) (arg9 : Memref sig .tc .vmem S16x256x2x128 .bf16) (harg9 : arg9.IsWhole) (v99 : FVec Ideal S128x512 .f32) (c0_i32_50 : BitVec 32) (X_arg5 : BufTy.Contents (Elt Ideal) arg5.view.ty) (X_arg8 : BufTy.Contents (Elt Ideal) arg8.view.ty) (X_arg9 : BufTy.Contents (Elt Ideal) arg9.view.ty) (init : FVec Ideal S128x512 .f32) (hc : c0_i32_50 = 0#32)
    (hz : ∀ j, init j = 0) (r : Fin 128) (n : Fin 512) : ∀ K : ℕ, K ≤ 16 →
    st_k0_t1 (F := Ideal) 𝒱 c bd i arg1 harg1 arg2 harg2 arg3 harg3 arg4 harg4 arg5 harg5 arg6 harg6 arg7 harg7 arg8 harg8 arg9 harg9 v99 c0_i32_50 X_arg5 X_arg8 X_arg9 init K (ix2 r n)
      = ∑ u ∈ Finset.range K, part (arg8.view.read (Elt Ideal) X_arg8) (arg5.view.read (Elt Ideal) X_arg5) (arg9.view.read (Elt Ideal) X_arg9) r ⟨0 + n.val, by omega⟩ u := by
  subst hc
  intro K
  induction K with
  | zero => intro _; rw [st_k0_t1_zero, Finset.sum_range_zero]; exact hz _
  | succ K ih =>
    intro hK
    have ih := ih (by omega)
    have hT : k0_t1_loop.trips = 16 := by decide
    have hk : K < k0_t1_loop.trips := by omega
    obtain ⟨k, rfl⟩ : ∃ k : Fin k0_t1_loop.trips, k.val = K := ⟨⟨K, hk⟩, rfl⟩
    rw [st_k0_t1_succ, tripR1]
    have e := trip_part (arg8.view.read (Elt Ideal) X_arg8) (arg5.view.read (Elt Ideal) X_arg5) (arg9.view.read (Elt Ideal) X_arg9)
      0 ⟨k.val, by omega⟩ (Scf.iv 0#32 1#32 k.val) (st_k0_t1 (F := Ideal) 𝒱 c bd i arg1 harg1 arg2 harg2 arg3 harg3 arg4 harg4 arg5 harg5 arg6 harg6 arg7 harg7 arg8 harg8 arg9 harg9 v99 (0#32) X_arg5 X_arg8 X_arg9 init k.val)
      (k0_off6 k) (k0_off6_inb k) (k0_off6_eq k) (k0_off1 k) (k0_off1_inb k) (k0_off1_eq k)
      (fun q b => match q with | 0 => k0_off2 k (BitVec.ofNat 32 b.val) | 1 => k0_off3 k (BitVec.ofNat 32 b.val) | 2 => k0_off4 k (BitVec.ofNat 32 b.val) | 3 => k0_off5 k (BitVec.ofNat 32 b.val))
      (fun q b => match q with | 0 => k0_off2_inb k b | 1 => k0_off3_inb k b | 2 => k0_off4_inb k b | 3 => k0_off5_inb k b)
      (fun q b => match q with | 0 => k0_off2_eq k b | 1 => k0_off3_eq k b | 2 => k0_off4_eq k b | 3 => k0_off5_eq k b) r n
    refine (Eq.trans ?_ e).trans (sum_step _ ⟨k.val, by omega⟩ _ ih)
    rfl

/-- Loop 1 after `K` trips, at row `i`, column `512 + n` of the block. -/
theorem st2 (𝒱 : Variants) (c : Dev nD) (bd : Option 𝒱.V) (i : grid0.Coords) (arg1 : Memref sig .tc .smem S2 .f32) (harg1 : arg1.IsWhole) (arg2 : Memref sig .tc .smem S1 .f32) (harg2 : arg2.IsWhole) (arg3 : Memref sig .tc .vmem S128x2048 .i8) (harg3 : arg3.IsWhole) (arg4 : Memref sig .tc .vmem S128x256 .fp8e4m3) (harg4 : arg4.IsWhole) (arg5 : Memref sig .tc .vmem S2048x2048 .i8) (harg5 : arg5.IsWhole) (arg6 : Memref sig .tc .vmem S256x2048 .fp8e4m3) (harg6 : arg6.IsWhole) (arg7 : Memref sig .tc .vmem S128x2048 .bf16) (harg7 : arg7.IsWhole) (arg8 : Memref sig .tc .vmem S128x4096 .bf16) (harg8 : arg8.IsWhole) (arg9 : Memref sig .tc .vmem S16x256x2x128 .bf16) (harg9 : arg9.IsWhole) (v99 : FVec Ideal S128x512 .f32) (c0_i32_50 : BitVec 32) (X_arg5 : BufTy.Contents (Elt Ideal) arg5.view.ty) (X_arg8 : BufTy.Contents (Elt Ideal) arg8.view.ty) (X_arg9 : BufTy.Contents (Elt Ideal) arg9.view.ty) (init : FVec Ideal S128x512 .f32)
    (hz : ∀ j, init j = 0) (r : Fin 128) (n : Fin 512) : ∀ K : ℕ, K ≤ 16 →
    st_k0_t2 (F := Ideal) 𝒱 c bd i arg1 harg1 arg2 harg2 arg3 harg3 arg4 harg4 arg5 harg5 arg6 harg6 arg7 harg7 arg8 harg8 arg9 harg9 v99 c0_i32_50 X_arg5 X_arg8 X_arg9 init K (ix2 r n)
      = ∑ u ∈ Finset.range K, part (arg8.view.read (Elt Ideal) X_arg8) (arg5.view.read (Elt Ideal) X_arg5) (arg9.view.read (Elt Ideal) X_arg9) r ⟨512 + n.val, by omega⟩ u := by
  intro K
  induction K with
  | zero => intro _; rw [st_k0_t2_zero, Finset.sum_range_zero]; exact hz _
  | succ K ih =>
    intro hK
    have ih := ih (by omega)
    have hT : k0_t2_loop.trips = 16 := by decide
    have hk : K < k0_t2_loop.trips := by omega
    obtain ⟨k, rfl⟩ : ∃ k : Fin k0_t2_loop.trips, k.val = K := ⟨⟨K, hk⟩, rfl⟩
    rw [st_k0_t2_succ, tripR2]
    have e := trip_part (arg8.view.read (Elt Ideal) X_arg8) (arg5.view.read (Elt Ideal) X_arg5) (arg9.view.read (Elt Ideal) X_arg9)
      1 ⟨k.val, by omega⟩ (Scf.iv 0#32 1#32 k.val) (st_k0_t2 (F := Ideal) 𝒱 c bd i arg1 harg1 arg2 harg2 arg3 harg3 arg4 harg4 arg5 harg5 arg6 harg6 arg7 harg7 arg8 harg8 arg9 harg9 v99 c0_i32_50 X_arg5 X_arg8 X_arg9 init k.val)
      (k0_off12 k) (k0_off12_inb k) (k0_off12_eq k) (k0_off7 k) (k0_off7_inb k) (k0_off7_eq k)
      (fun q b => match q with | 0 => k0_off8 k (BitVec.ofNat 32 b.val) | 1 => k0_off9 k (BitVec.ofNat 32 b.val) | 2 => k0_off10 k (BitVec.ofNat 32 b.val) | 3 => k0_off11 k (BitVec.ofNat 32 b.val))
      (fun q b => match q with | 0 => k0_off8_inb k b | 1 => k0_off9_inb k b | 2 => k0_off10_inb k b | 3 => k0_off11_inb k b)
      (fun q b => match q with | 0 => k0_off8_eq k b | 1 => k0_off9_eq k b | 2 => k0_off10_eq k b | 3 => k0_off11_eq k b) r n
    refine (Eq.trans ?_ e).trans (sum_step _ ⟨k.val, by omega⟩ _ ih)
    rfl

/-- Loop 2 after `K` trips, at row `i`, column `1024 + n` of the block. -/
theorem st3 (𝒱 : Variants) (c : Dev nD) (bd : Option 𝒱.V) (i : grid0.Coords) (arg1 : Memref sig .tc .smem S2 .f32) (harg1 : arg1.IsWhole) (arg2 : Memref sig .tc .smem S1 .f32) (harg2 : arg2.IsWhole) (arg3 : Memref sig .tc .vmem S128x2048 .i8) (harg3 : arg3.IsWhole) (arg4 : Memref sig .tc .vmem S128x256 .fp8e4m3) (harg4 : arg4.IsWhole) (arg5 : Memref sig .tc .vmem S2048x2048 .i8) (harg5 : arg5.IsWhole) (arg6 : Memref sig .tc .vmem S256x2048 .fp8e4m3) (harg6 : arg6.IsWhole) (arg7 : Memref sig .tc .vmem S128x2048 .bf16) (harg7 : arg7.IsWhole) (arg8 : Memref sig .tc .vmem S128x4096 .bf16) (harg8 : arg8.IsWhole) (arg9 : Memref sig .tc .vmem S16x256x2x128 .bf16) (harg9 : arg9.IsWhole) (v135 : FVec Ideal S64x512 .f32) (v136 : Elt Ideal .f32) (X_arg5 : BufTy.Contents (Elt Ideal) arg5.view.ty) (X_arg8 : BufTy.Contents (Elt Ideal) arg8.view.ty) (X_arg9 : BufTy.Contents (Elt Ideal) arg9.view.ty) (init : FVec Ideal S128x512 .f32)
    (hz : ∀ j, init j = 0) (r : Fin 128) (n : Fin 512) : ∀ K : ℕ, K ≤ 16 →
    st_k0_t3 (F := Ideal) 𝒱 c bd i arg1 harg1 arg2 harg2 arg3 harg3 arg4 harg4 arg5 harg5 arg6 harg6 arg7 harg7 arg8 harg8 arg9 harg9 v135 v136 X_arg5 X_arg8 X_arg9 init K (ix2 r n)
      = ∑ u ∈ Finset.range K, part (arg8.view.read (Elt Ideal) X_arg8) (arg5.view.read (Elt Ideal) X_arg5) (arg9.view.read (Elt Ideal) X_arg9) r ⟨1024 + n.val, by omega⟩ u := by
  intro K
  induction K with
  | zero => intro _; rw [st_k0_t3_zero, Finset.sum_range_zero]; exact hz _
  | succ K ih =>
    intro hK
    have ih := ih (by omega)
    have hT : k0_t3_loop.trips = 16 := by decide
    have hk : K < k0_t3_loop.trips := by omega
    obtain ⟨k, rfl⟩ : ∃ k : Fin k0_t3_loop.trips, k.val = K := ⟨⟨K, hk⟩, rfl⟩
    rw [st_k0_t3_succ, tripR3]
    have e := trip_part (arg8.view.read (Elt Ideal) X_arg8) (arg5.view.read (Elt Ideal) X_arg5) (arg9.view.read (Elt Ideal) X_arg9)
      2 ⟨k.val, by omega⟩ (Scf.iv 0#32 1#32 k.val) (st_k0_t3 (F := Ideal) 𝒱 c bd i arg1 harg1 arg2 harg2 arg3 harg3 arg4 harg4 arg5 harg5 arg6 harg6 arg7 harg7 arg8 harg8 arg9 harg9 v135 v136 X_arg5 X_arg8 X_arg9 init k.val)
      (k0_off18 k) (k0_off18_inb k) (k0_off18_eq k) (k0_off13 k) (k0_off13_inb k) (k0_off13_eq k)
      (fun q b => match q with | 0 => k0_off14 k (BitVec.ofNat 32 b.val) | 1 => k0_off15 k (BitVec.ofNat 32 b.val) | 2 => k0_off16 k (BitVec.ofNat 32 b.val) | 3 => k0_off17 k (BitVec.ofNat 32 b.val))
      (fun q b => match q with | 0 => k0_off14_inb k b | 1 => k0_off15_inb k b | 2 => k0_off16_inb k b | 3 => k0_off17_inb k b)
      (fun q b => match q with | 0 => k0_off14_eq k b | 1 => k0_off15_eq k b | 2 => k0_off16_eq k b | 3 => k0_off17_eq k b) r n
    refine (Eq.trans ?_ e).trans (sum_step _ ⟨k.val, by omega⟩ _ ih)
    rfl

/-- Loop 3 after `K` trips, at row `i`, column `1536 + n` of the block. -/
theorem st4 (𝒱 : Variants) (c : Dev nD) (bd : Option 𝒱.V) (i : grid0.Coords) (arg1 : Memref sig .tc .smem S2 .f32) (harg1 : arg1.IsWhole) (arg2 : Memref sig .tc .smem S1 .f32) (harg2 : arg2.IsWhole) (arg3 : Memref sig .tc .vmem S128x2048 .i8) (harg3 : arg3.IsWhole) (arg4 : Memref sig .tc .vmem S128x256 .fp8e4m3) (harg4 : arg4.IsWhole) (arg5 : Memref sig .tc .vmem S2048x2048 .i8) (harg5 : arg5.IsWhole) (arg6 : Memref sig .tc .vmem S256x2048 .fp8e4m3) (harg6 : arg6.IsWhole) (arg7 : Memref sig .tc .vmem S128x2048 .bf16) (harg7 : arg7.IsWhole) (arg8 : Memref sig .tc .vmem S128x4096 .bf16) (harg8 : arg8.IsWhole) (arg9 : Memref sig .tc .vmem S16x256x2x128 .bf16) (harg9 : arg9.IsWhole) (v135 : FVec Ideal S64x512 .f32) (v136 : Elt Ideal .f32) (X_arg5 : BufTy.Contents (Elt Ideal) arg5.view.ty) (X_arg8 : BufTy.Contents (Elt Ideal) arg8.view.ty) (X_arg9 : BufTy.Contents (Elt Ideal) arg9.view.ty) (init : FVec Ideal S128x512 .f32)
    (hz : ∀ j, init j = 0) (r : Fin 128) (n : Fin 512) : ∀ K : ℕ, K ≤ 16 →
    st_k0_t4 (F := Ideal) 𝒱 c bd i arg1 harg1 arg2 harg2 arg3 harg3 arg4 harg4 arg5 harg5 arg6 harg6 arg7 harg7 arg8 harg8 arg9 harg9 v135 v136 X_arg5 X_arg8 X_arg9 init K (ix2 r n)
      = ∑ u ∈ Finset.range K, part (arg8.view.read (Elt Ideal) X_arg8) (arg5.view.read (Elt Ideal) X_arg5) (arg9.view.read (Elt Ideal) X_arg9) r ⟨1536 + n.val, by omega⟩ u := by
  intro K
  induction K with
  | zero => intro _; rw [st_k0_t4_zero, Finset.sum_range_zero]; exact hz _
  | succ K ih =>
    intro hK
    have ih := ih (by omega)
    have hT : k0_t4_loop.trips = 16 := by decide
    have hk : K < k0_t4_loop.trips := by omega
    obtain ⟨k, rfl⟩ : ∃ k : Fin k0_t4_loop.trips, k.val = K := ⟨⟨K, hk⟩, rfl⟩
    rw [st_k0_t4_succ, tripR4]
    have e := trip_part (arg8.view.read (Elt Ideal) X_arg8) (arg5.view.read (Elt Ideal) X_arg5) (arg9.view.read (Elt Ideal) X_arg9)
      3 ⟨k.val, by omega⟩ (Scf.iv 0#32 1#32 k.val) (st_k0_t4 (F := Ideal) 𝒱 c bd i arg1 harg1 arg2 harg2 arg3 harg3 arg4 harg4 arg5 harg5 arg6 harg6 arg7 harg7 arg8 harg8 arg9 harg9 v135 v136 X_arg5 X_arg8 X_arg9 init k.val)
      (k0_off24 k) (k0_off24_inb k) (k0_off24_eq k) (k0_off19 k) (k0_off19_inb k) (k0_off19_eq k)
      (fun q b => match q with | 0 => k0_off20 k (BitVec.ofNat 32 b.val) | 1 => k0_off21 k (BitVec.ofNat 32 b.val) | 2 => k0_off22 k (BitVec.ofNat 32 b.val) | 3 => k0_off23 k (BitVec.ofNat 32 b.val))
      (fun q b => match q with | 0 => k0_off20_inb k b | 1 => k0_off21_inb k b | 2 => k0_off22_inb k b | 3 => k0_off23_inb k b)
      (fun q b => match q with | 0 => k0_off20_eq k b | 1 => k0_off21_eq k b | 2 => k0_off22_eq k b | 3 => k0_off23_eq k b) r n
    refine (Eq.trans ?_ e).trans (sum_step _ ⟨k.val, by omega⟩ _ ih)
    rfl

end Cert.KernelIdeal.Val
-- ==== Proof.Scales.lean ====
module

public import proofs.«01_k».proof.KernelIdeal
public import Idealize.ShloMosaic.Lib.Pointwise
public import proofs.«01_k».proof.Proof.Gen.KernelIdeal.Frame
public import Idealize.ShloMosaic.Lib.Tactic
public import Idealize.ShloMosaic.Lib.Pipeline.ValueKit

/-!
# The scratch of scale words

The kernel writes the [256, 2048] block of weight scales into a [16, 256, 2, 128] scratch, one store per group of 128
columns, each scale twice (both halves of a word). This module says what the sixteen stores leave.
-/

@[expose] public section

noncomputable section

namespace Cert.KernelIdeal.Val

open Idealize.ShloMosaic Cert.KernelIdeal

variable {F : FTy → Type} [FloatOps F] [Facts₀]
open Facts₀

/-- What one store writes: 128 columns of scales, each twice. -/
def scaleRow (v : Vec F S256x128 .fp8e4m3) : Vec F S1x256x2x128 .bf16 :=
  interleaveRows S1x256x2x128
    (shapeCast S1x256x1x128 (shapeCast S1x256x128 (truncf .bf16 (extf .f32 v bitsLt_fp8e4m3_f32) : FVec F S256x128 .bf16) shapeCasts_S256x128_S1x256x128) shapeCasts_S1x256x128_S1x256x1x128)
    (shapeCast S1x256x1x128 (shapeCast S1x256x128 (truncf .bf16 (extf .f32 v bitsLt_fp8e4m3_f32) : FVec F S256x128 .bf16) shapeCasts_S256x128_S1x256x128) shapeCasts_S1x256x128_S1x256x1x128)
    bitcasts_S1x256x2x128_w16_S1x256x1x128_w32

/-- The sixteen stores, latest first. -/
def scalePieces (x5 : Vec F S256x2048 .fp8e4m3) : List (View.Piece (Elt F) S16x256x2x128 .bf16) :=
  [ ⟨Rect.unit (s := S16x256x2x128) ![15, 0, 0, 0] S1x256x2x128.size inb_S16x256x2x128_S1x256x2x128_15_0_0_0, scaleRow (View.ld (Val := Elt F) (e' := .fp8e4m3) x5 (Rect.unit (s := S256x2048) ![0, 1920] S256x128.size inb_S256x2048_S256x128_0_1920))⟩,
    ⟨Rect.unit (s := S16x256x2x128) ![14, 0, 0, 0] S1x256x2x128.size inb_S16x256x2x128_S1x256x2x128_14_0_0_0, scaleRow (View.ld (Val := Elt F) (e' := .fp8e4m3) x5 (Rect.unit (s := S256x2048) ![0, 1792] S256x128.size inb_S256x2048_S256x128_0_1792))⟩,
    ⟨Rect.unit (s := S16x256x2x128) ![13, 0, 0, 0] S1x256x2x128.size inb_S16x256x2x128_S1x256x2x128_13_0_0_0, scaleRow (View.ld (Val := Elt F) (e' := .fp8e4m3) x5 (Rect.unit (s := S256x2048) ![0, 1664] S256x128.size inb_S256x2048_S256x128_0_1664))⟩,
    ⟨Rect.unit (s := S16x256x2x128) ![12, 0, 0, 0] S1x256x2x128.size inb_S16x256x2x128_S1x256x2x128_12_0_0_0, scaleRow (View.ld (Val := Elt F) (e' := .fp8e4m3) x5 (Rect.unit (s := S256x2048) ![0, 1536] S256x128.size inb_S256x2048_S256x128_0_1536))⟩,
    ⟨Rect.unit (s := S16x256x2x128) ![11, 0, 0, 0] S1x256x2x128.size inb_S16x256x2x128_S1x256x2x128_11_0_0_0, scaleRow (View.ld (Val := Elt F) (e' := .fp8e4m3) x5 (Rect.unit (s := S256x2048) ![0, 1408] S256x128.size inb_S256x2048_S256x128_0_1408))⟩,
    ⟨Rect.unit (s := S16x256x2x128) ![10, 0, 0, 0] S1x256x2x128.size inb_S16x256x2x128_S1x256x2x128_10_0_0_0, scaleRow (View.ld (Val := Elt F) (e' := .fp8e4m3) x5 (Rect.unit (s := S256x2048) ![0, 1280] S256x128.size inb_S256x2048_S256x128_0_1280))⟩,
    ⟨Rect.unit (s := S16x256x2x128) ![9, 0, 0, 0] S1x256x2x128.size inb_S16x256x2x128_S1x256x2x128_9_0_0_0, scaleRow (View.ld (Val := Elt F) (e' := .fp8e4m3) x5 (Rect.unit (s := S256x2048) ![0, 1152] S256x128.size inb_S256x2048_S256x128_0_1152))⟩,
    ⟨Rect.unit (s := S16x256x2x128) ![8, 0, 0, 0] S1x256x2x128.size inb_S16x256x2x128_S1x256x2x128_8_0_0_0, scaleRow (View.ld (Val := Elt F) (e' := .fp8e4m3) x5 (Rect.unit (s := S256x2048) ![0, 1024] S256x128.size inb_S256x2048_S256x128_0_1024))⟩,
    ⟨Rect.unit (s := S16x256x2x128) ![7, 0, 0, 0] S1x256x2x128.size inb_S16x256x2x128_S1x256x2x128_7_0_0_0, scaleRow (View.ld (Val := Elt F) (e' := .fp8e4m3) x5 (Rect.unit (s := S256x2048) ![0, 896] S256x128.size inb_S256x2048_S256x128_0_896))⟩,
    ⟨Rect.unit (s := S16x256x2x128) ![6, 0, 0, 0] S1x256x2x128.size inb_S16x256x2x128_S1x256x2x128_6_0_0_0, scaleRow (View.ld (Val := Elt F) (e' := .fp8e4m3) x5 (Rect.unit (s := S256x2048) ![0, 768] S256x128.size inb_S256x2048_S256x128_0_768))⟩,
    ⟨Rect.unit (s := S16x256x2x128) ![5, 0, 0, 0] S1x256x2x128.size inb_S16x256x2x128_S1x256x2x128_5_0_0_0, scaleRow (View.ld (Val := Elt F) (e' := .fp8e4m3) x5 (Rect.unit (s := S256x2048) ![0, 640] S256x128.size inb_S256x2048_S256x128_0_640))⟩,
    ⟨Rect.unit (s := S16x256x2x128) ![4, 0, 0, 0] S1x256x2x128.size inb_S16x256x2x128_S1x256x2x128_4_0_0_0, scaleRow (View.ld (Val := Elt F) (e' := .fp8e4m3) x5 (Rect.unit (s := S256x2048) ![0, 512] S256x128.size inb_S256x2048_S256x128_0_512))⟩,
    ⟨Rect.unit (s := S16x256x2x128) ![3, 0, 0, 0] S1x256x2x128.size inb_S16x256x2x128_S1x256x2x128_3_0_0_0, scaleRow (View.ld (Val := Elt F) (e' := .fp8e4m3) x5 (Rect.unit (s := S256x2048) ![0, 384] S256x128.size inb_S256x2048_S256x128_0_384))⟩,
    ⟨Rect.unit (s := S16x256x2x128) ![2, 0, 0, 0] S1x256x2x128.size inb_S16x256x2x128_S1x256x2x128_2_0_0_0, scaleRow (View.ld (Val := Elt F) (e' := .fp8e4m3) x5 (Rect.unit (s := S256x2048) ![0, 256] S256x128.size inb_S256x2048_S256x128_0_256))⟩,
    ⟨Rect.unit (s := S16x256x2x128) ![1, 0, 0, 0] S1x256x2x128.size inb_S16x256x2x128_S1x256x2x128_1_0_0_0, scaleRow (View.ld (Val := Elt F) (e' := .fp8e4m3) x5 (Rect.unit (s := S256x2048) ![0, 128] S256x128.size inb_S256x2048_S256x128_0_128))⟩,
    ⟨Rect.unit (s := S16x256x2x128) ![0, 0, 0, 0] S1x256x2x128.size inb_S16x256x2x128_S1x256x2x128_0_0_0_0, scaleRow (View.ld (Val := Elt F) (e' := .fp8e4m3) x5 (Rect.unit (s := S256x2048) ![0, 0] S256x128.size inb_S256x2048_S256x128_0_0))⟩]

/-- What one store writes, at an index: the column's scale, whatever the half. -/
theorem scaleRow_apply (v : Vec Ideal S256x128 .fp8e4m3) (j : Fin 256) (p : Fin 2) (l : Fin 128) :
    scaleRow v (ix4 0 j p l) = v (ix2 j l) := by
  unfold scaleRow
  pointwise
  exact ite_self _

/-- The scratch of scales: entry (g, j, p, l) is the scale of column `128 g + l`, block row `j`. -/
def scaleArr (x5 : Vec Ideal S256x2048 .fp8e4m3) : Vec Ideal S16x256x2x128 .bf16 :=
  fun y => x5 (ix2 (y 1) ⟨128 * (y 0).val + (y 3).val, by
    have h0 : (y 0).val < 16 := (y 0).isLt
    have h1 : (y 3).val < 128 := (y 3).isLt
    omega⟩)

/-- One store at an index of the scratch. -/
theorem scale_piece (x5 : Vec Ideal S256x2048 .fp8e4m3) (q : ℕ) (hq : q < 16) (inb) (x : S1x256x2x128.Idx) (y : S16x256x2x128.Idx)
    (h0 : (y 0).val = q + (x 0).val) (h1 : (y 1).val = (x 1).val) (h3 : (y 3).val = (x 3).val) :
    scaleRow (View.ld (Val := Elt Ideal) (e' := .fp8e4m3) x5 (Rect.unit (s := S256x2048) ![0, 128 * q] S256x128.size inb)) x
      = scaleArr x5 y := by
  obtain ⟨x0, x1, x2, x3, rfl⟩ : ∃ (a : Fin 1) (b : Fin 256) (c : Fin 2) (d : Fin 128), x = ix4 a b c d :=
    ⟨x 0, x 1, x 2, x 3, by funext a; match a with | ⟨0, _⟩ => rfl | ⟨1, _⟩ => rfl | ⟨2, _⟩ => rfl | ⟨3, _⟩ => rfl⟩
  obtain rfl : x0 = 0 := Subsingleton.elim _ _
  rw [scaleRow_apply, View.ld_apply]
  unfold scaleArr
  have h0' : (y 0).val = q := h0
  have h1' : (y 1).val = x1.val := h1
  have h3' : (y 3).val = x3.val := h3
  refine congrArg x5 ?_
  funext a
  match a with
  | ⟨0, _⟩ => exact Fin.ext (by simp [Rect.idx_unit_val, h1'])
  | ⟨1, _⟩ => exact Fin.ext (by simp [Rect.idx_unit_val, h0', h3'])

/-- The sixteen stores fill the scratch. -/
theorem scales_cover (x5 : Vec F S256x2048 .fp8e4m3) (y : S16x256x2x128.Idx) : ∃ pc ∈ scalePieces x5, y ∈ pc.1.set :=
  View.cover_of_tiledL (scalePieces x5) S1x256x2x128.size (by sl_kernel_rfl) y

/-- What the sixteen stores leave, read whole. -/
theorem scales_read {sig : RefSig} {κ : Kind} {sp : Space} (v : View sig κ sp S16x256x2x128 .bf16) (f : v.ty.Contents (Elt Ideal)) (x5 : Vec Ideal S256x2048 .fp8e4m3) :
    v.read (Elt Ideal) (v.writes (Elt Ideal) f (scalePieces x5)) = scaleArr x5 := by
  rw [View.read_writes_eq_canon _ _ _ (scales_cover x5)]
  have hc := scales_cover x5
  unfold scalePieces at hc ⊢
  funext y
  canon_tiles x h using hc y
  · exact scale_piece x5 15 (by decide) inb_S256x2048_S256x128_0_1920 x y (by omega) (by omega) (by omega)
  · exact scale_piece x5 14 (by decide) inb_S256x2048_S256x128_0_1792 x y (by omega) (by omega) (by omega)
  · exact scale_piece x5 13 (by decide) inb_S256x2048_S256x128_0_1664 x y (by omega) (by omega) (by omega)
  · exact scale_piece x5 12 (by decide) inb_S256x2048_S256x128_0_1536 x y (by omega) (by omega) (by omega)
  · exact scale_piece x5 11 (by decide) inb_S256x2048_S256x128_0_1408 x y (by omega) (by omega) (by omega)
  · exact scale_piece x5 10 (by decide) inb_S256x2048_S256x128_0_1280 x y (by omega) (by omega) (by omega)
  · exact scale_piece x5 9 (by decide) inb_S256x2048_S256x128_0_1152 x y (by omega) (by omega) (by omega)
  · exact scale_piece x5 8 (by decide) inb_S256x2048_S256x128_0_1024 x y (by omega) (by omega) (by omega)
  · exact scale_piece x5 7 (by decide) inb_S256x2048_S256x128_0_896 x y (by omega) (by omega) (by omega)
  · exact scale_piece x5 6 (by decide) inb_S256x2048_S256x128_0_768 x y (by omega) (by omega) (by omega)
  · exact scale_piece x5 5 (by decide) inb_S256x2048_S256x128_0_640 x y (by omega) (by omega) (by omega)
  · exact scale_piece x5 4 (by decide) inb_S256x2048_S256x128_0_512 x y (by omega) (by omega) (by omega)
  · exact scale_piece x5 3 (by decide) inb_S256x2048_S256x128_0_384 x y (by omega) (by omega) (by omega)
  · exact scale_piece x5 2 (by decide) inb_S256x2048_S256x128_0_256 x y (by omega) (by omega) (by omega)
  · exact scale_piece x5 1 (by decide) inb_S256x2048_S256x128_0_128 x y (by omega) (by omega) (by omega)
  · exact scale_piece x5 0 (by decide) inb_S256x2048_S256x128_0_0 x y (by omega) (by omega) (by omega)

end Cert.KernelIdeal.Val
-- ==== Proof.Out.lean ====
module

public import proofs.«01_k».proof.Proof.Part
public import proofs.«01_k».proof.Proof.Scales

/-!
# What one store of the output block writes

A store takes half the rows of a finished [128, 512] sum, multiplies by the half's own gain of x and by the gain of the
weights, and rounds to bf16 (at the ideal instance: keeps).
-/

@[expose] public section

noncomputable section

namespace Cert.KernelIdeal.Val

open Idealize.ShloMosaic Cert.KernelIdeal

variable [Facts₀]
open Facts₀

/-- Every loop starts from zero. -/
theorem init_zero (j : S128x512.Idx) : broadcast S128x512 (Scalar.ofBits (F := Ideal) .f32 0x00000000#32) j = 0 := by
  pointwise

/-- The value of the output block at an index, in the arrays a grid point reads. -/
def outVal (X : FVec Ideal S128x4096 .bf16) (wc : IVec S2048x2048 8) (S : FVec Ideal S16x256x2x128 .bf16) (xg : Vec Ideal S2 .f32)
    (wg : Vec Ideal S1 .f32) (y : S128x2048.Idx) : EReal :=
  (∑ u ∈ Finset.range 16, part X wc S (y 0) (y 1) u) * xg (ix1 ⟨(y 0).val / 64, by
    have h : (y 0).val < 128 := (y 0).isLt
    omega⟩) * wg (ix1 0)

/-- What one store writes, from the finished sum and the two gains. -/
abbrev outPiece (off : Fin 2 → ℕ) (h : S128x512.Slices off S64x512) (acc : FVec Ideal S128x512 .f32) (a b : EReal) : FVec Ideal S64x512 .bf16 :=
  truncf .bf16 (mulf (mulf (extractStridedSlice S64x512 off acc h) (broadcast S64x512 (a : Ideal .f32))) (broadcast S64x512 (b : Ideal .f32)))

/-- One store against the block's value. -/
theorem out_piece (p : Fin 2) (o : ℕ) (ho : o + 512 ≤ 2048) (h : S128x512.Slices ![64 * p.val, 0] S64x512) (X : FVec Ideal S128x4096 .bf16) (wc : IVec S2048x2048 8)
    (S : FVec Ideal S16x256x2x128 .bf16) (xg : Vec Ideal S2 .f32) (wg : Vec Ideal S1 .f32) (acc : FVec Ideal S128x512 .f32)
    (a b : EReal) (ha : a = xg (ix1 p)) (hb : b = wg (ix1 0)) (hacc : ∀ (r : Fin 128) (n : Fin 512), acc (ix2 r n) = ∑ u ∈ Finset.range 16, part X wc S r ⟨o + n.val, by omega⟩ u)
    (x : S64x512.Idx) (y : S128x2048.Idx) (h0 : (y 0).val = 64 * p.val + (x 0).val) (h1 : (y 1).val = o + (x 1).val) :
    outPiece ![64 * p.val, 0] h acc a b x = outVal X wc S xg wg y := by
  subst ha hb
  obtain ⟨x0, x1, rfl⟩ : ∃ (a : Fin 64) (b : Fin 512), x = ix2 a b :=
    ⟨x 0, x 1, by funext a; match a with | ⟨0, _⟩ => rfl | ⟨1, _⟩ => rfl⟩
  have h0' : (y 0).val = 64 * p.val + x0.val := h0
  have h1' : (y 1).val = o + x1.val := h1
  have hs : acc (ix2 ⟨64 * p.val + x0.val, by omega⟩ x1) = ∑ u ∈ Finset.range 16, part X wc S (y 0) (y 1) u := by
    rw [hacc]
    refine Finset.sum_congr rfl fun u _ => ?_
    exact congrArg₂ (fun r n => part X wc S r n u) (Fin.ext h0'.symm) (Fin.ext h1'.symm)
  unfold outVal
  have e : (⟨(y 0).val / 64, by omega⟩ : Fin 2) = p := Fin.ext (by show (y 0).val / 64 = p.val; omega)
  rw [← hs, e]
  pointwise
  try rfl

/-- A gain loaded as a scalar: entry `k` of the gains' array. -/
theorem gain_read {n : ℕ} (v : Memref sig .tc .smem (⟨1, ![n]⟩ : Shape) .f32) (hv : v.IsWhole)
    (x : Vec Ideal (⟨1, ![n]⟩ : Shape) .f32) (k : Fin n) (inb) (hp) :
    View.readAt (Elt Ideal) v.view (Rect.unit (s := (⟨1, ![n]⟩ : Shape)) ![k.val] (⟨1, ![1]⟩ : Shape).size inb).toLoadRect (hv.unread x) (Shape.Idx.first hp) = x (ix1 k) := by
  show View.ld (Val := Elt Ideal) (e' := .f32) (v.view.read (Elt Ideal) (hv.unread x)) (Rect.unit (s := (⟨1, ![n]⟩ : Shape)) ![k.val] (⟨1, ![1]⟩ : Shape).size inb) (Shape.Idx.first hp) = _
  rw [hv.read_unread, View.ld_apply]
  refine congrArg x ?_
  funext a
  match a with
  | ⟨0, _⟩ => exact Fin.ext (by simp [Rect.idx_unit_val])

end Cert.KernelIdeal.Val
-- ==== Proof.XPrep.lean ====
module

public import proofs.«01_k».proof.Proof.Gen.KernelIdeal.Frame
public import proofs.«01_k».proof.Proof.Part
public import Idealize.ShloMosaic.Lib.Tactic
public import Idealize.ShloMosaic.Lib.Pipeline.ValueKit

/-!
# The decoded x

At grid point 0 the kernel decodes x once into a [128, 4096] scratch, sixteen chunks of 256 columns. Each chunk takes
128 columns of the low nibbles beside 128 columns of the high nibbles, brings the two halves into alternation by a
product with a 0/1 matrix, and multiplies by the block scales, repeated sixteen times by a product with another 0/1
matrix. This module says what the sixteen stores leave: column `r` is nibble `r % 2` of byte `r / 2` times scale `r / 16`.
-/

@[expose] public section

noncomputable section

namespace Cert.KernelIdeal.Val

open Idealize.ShloMosaic Cert.KernelIdeal

section Defs

variable {F : FTy → Type} [FloatOps F] [Facts₀]
open Facts₀

/-- Nibble `p` of every byte of x, as a float. -/
abbrev xHalf (p : Fin 2) (xc : IVec S128x2048 8) : FVec F S128x2048 .f32 :=
  extf .f32 (rowsOfParity p S128x2048
    (bitcastToFloat .bf16 (bitcast S256x2048 16 (wordsOf (shapeCast S128x2048 xc shapeCasts_S128x2048_S128x2048)) bitcasts_S128x2048_w32_S256x2048_w16) : FVec F S256x2048 .bf16)
    bitcasts_S256x2048_w16_S128x2048_w32)

/-- A 0/1 matrix from a condition. -/
abbrev zeroOne (m : IVec S256x256 1) : FVec F S256x256 .bf16 :=
  truncf .bf16 (select m (broadcast S256x256 (Scalar.ofBits (F := F) .f32 0x3F800000#32)) (broadcast S256x256 (Scalar.ofBits (F := F) .f32 0x00000000#32))) bitsLt_bf16_f32

/-- The condition of the alternation: column `c` takes row `j` when `c = 2 (j % 128) + j / 128`. -/
abbrev permCond : IVec S256x256 1 :=
  cmpi .eq (iota .tc S256x256 32 [1] iota_S256x256_d1_w32)
    (addi (muli (broadcast S256x256 2#32) (andi (iota .tc S256x256 32 [0] iota_S256x256_d0_w32) (broadcast S256x256 127#32)))
      (shrsi (iota .tc S256x256 32 [0] iota_S256x256_d0_w32) (broadcast S256x256 7#32)))

/-- The condition of the repetition: column `c` takes row `j` when `j = b + c / 16`. -/
abbrev expandCond (b : BitVec 32) : IVec S256x256 1 :=
  cmpi .eq (iota .tc S256x256 32 [0] iota_S256x256_d0_w32)
    (addi (broadcast S256x256 b) (shrsi (iota .tc S256x256 32 [1] iota_S256x256_d1_w32) (broadcast S256x256 4#32)))

/-- The two halves of a chunk's nibbles side by side. -/
abbrev xPair (off : Fin 2 → ℕ) (h : S128x2048.Slices off S128x128) (xc : IVec S128x2048 8) : FVec F S128x256 .bf16 :=
  truncf .bf16 (concatenate S128x256 1 [⟨S128x128, extractStridedSlice S128x128 off (xHalf 0 xc) h⟩, ⟨S128x128, extractStridedSlice S128x128 off (xHalf 1 xc) h⟩]
    concatenates_S128x128_S128x128_S128x256_d1 : FVec F S128x256 .f32) bitsLt_bf16_f32

/-- The scales of x. -/
abbrev xScale (xs : Vec F S128x256 .fp8e4m3) : FVec F S128x256 .bf16 :=
  truncf .bf16 (extf .f32 (shapeCast S128x256 xs shapeCasts_S128x256_S128x256 : FVec F S128x256 .fp8e4m3) bitsLt_fp8e4m3_f32) bitsLt_bf16_f32

/-- One chunk of 256 decoded columns, as stored. -/
def xChunk (off : Fin 2 → ℕ) (h : S128x2048.Slices off S128x128) (b : BitVec 32) (xc : IVec S128x2048 8) (xs : Vec F S128x256 .fp8e4m3) :
    FVec F S128x256 .bf16 :=
  shapeCast S128x256 (truncf .bf16 (mulf
    (matmul dot_S128x256_S256x256_S128x256_1_0_0_1_n_n none (xPair off h xc) (zeroOne permCond) (constant S128x256 .f32 0x00000000#32))
    (matmul dot_S128x256_S256x256_S128x256_1_0_0_1_n_n none (xScale xs) (zeroOne (expandCond b)) (constant S128x256 .f32 0x00000000#32)))
    bitsLt_bf16_f32) shapeCasts_S128x256_S128x256

/-- The sixteen stores, latest first. -/
def xPieces (xc : IVec S128x2048 8) (xs : Vec F S128x256 .fp8e4m3) : List (View.Piece (Elt F) S128x4096 .bf16) :=
  [ ⟨Rect.unit (s := S128x4096) ![0, 3840] S128x256.size inb_S128x4096_S128x256_0_3840, xChunk ![0, 1920] slices_S128x2048_o0_1920_S128x128 240#32 xc xs⟩,
    ⟨Rect.unit (s := S128x4096) ![0, 3584] S128x256.size inb_S128x4096_S128x256_0_3584, xChunk ![0, 1792] slices_S128x2048_o0_1792_S128x128 224#32 xc xs⟩,
    ⟨Rect.unit (s := S128x4096) ![0, 3328] S128x256.size inb_S128x4096_S128x256_0_3328, xChunk ![0, 1664] slices_S128x2048_o0_1664_S128x128 208#32 xc xs⟩,
    ⟨Rect.unit (s := S128x4096) ![0, 3072] S128x256.size inb_S128x4096_S128x256_0_3072, xChunk ![0, 1536] slices_S128x2048_o0_1536_S128x128 192#32 xc xs⟩,
    ⟨Rect.unit (s := S128x4096) ![0, 2816] S128x256.size inb_S128x4096_S128x256_0_2816, xChunk ![0, 1408] slices_S128x2048_o0_1408_S128x128 176#32 xc xs⟩,
    ⟨Rect.unit (s := S128x4096) ![0, 2560] S128x256.size inb_S128x4096_S128x256_0_2560, xChunk ![0, 1280] slices_S128x2048_o0_1280_S128x128 160#32 xc xs⟩,
    ⟨Rect.unit (s := S128x4096) ![0, 2304] S128x256.size inb_S128x4096_S128x256_0_2304, xChunk ![0, 1152] slices_S128x2048_o0_1152_S128x128 144#32 xc xs⟩,
    ⟨Rect.unit (s := S128x4096) ![0, 2048] S128x256.size inb_S128x4096_S128x256_0_2048, xChunk ![0, 1024] slices_S128x2048_o0_1024_S128x128 128#32 xc xs⟩,
    ⟨Rect.unit (s := S128x4096) ![0, 1792] S128x256.size inb_S128x4096_S128x256_0_1792, xChunk ![0, 896] slices_S128x2048_o0_896_S128x128 112#32 xc xs⟩,
    ⟨Rect.unit (s := S128x4096) ![0, 1536] S128x256.size inb_S128x4096_S128x256_0_1536, xChunk ![0, 768] slices_S128x2048_o0_768_S128x128 96#32 xc xs⟩,
    ⟨Rect.unit (s := S128x4096) ![0, 1280] S128x256.size inb_S128x4096_S128x256_0_1280, xChunk ![0, 640] slices_S128x2048_o0_640_S128x128 80#32 xc xs⟩,
    ⟨Rect.unit (s := S128x4096) ![0, 1024] S128x256.size inb_S128x4096_S128x256_0_1024, xChunk ![0, 512] slices_S128x2048_o0_512_S128x128 64#32 xc xs⟩,
    ⟨Rect.unit (s := S128x4096) ![0, 768] S128x256.size inb_S128x4096_S128x256_0_768, xChunk ![0, 384] slices_S128x2048_o0_384_S128x128 48#32 xc xs⟩,
    ⟨Rect.unit (s := S128x4096) ![0, 512] S128x256.size inb_S128x4096_S128x256_0_512, xChunk ![0, 256] slices_S128x2048_o0_256_S128x128 32#32 xc xs⟩,
    ⟨Rect.unit (s := S128x4096) ![0, 256] S128x256.size inb_S128x4096_S128x256_0_256, xChunk ![0, 128] slices_S128x2048_o0_128_S128x128 16#32 xc xs⟩,
    ⟨Rect.unit (s := S128x4096) ![0, 0] S128x256.size inb_S128x4096_S128x256_0_0, xChunk ![0, 0] slices_S128x2048_o0_0_S128x128 0#32 xc xs⟩]

/-- The sixteen stores fill the scratch. -/
theorem x_cover (xc : IVec S128x2048 8) (xs : Vec F S128x256 .fp8e4m3) (y : S128x4096.Idx) : ∃ pc ∈ xPieces xc xs, y ∈ pc.1.set :=
  View.cover_of_tiledL (xPieces xc xs) S128x256.size (by sl_kernel_rfl) y

end Defs

variable [Facts₀]
open Facts₀

/-- The rows of one parity, widened, at an index. -/
theorem rows_apply (w : FVec Ideal S256x2048 .bf16) (p : Fin 2) (i : Fin 128) (j : Fin 2048) :
    (extf .f32 (rowsOfParity p S128x2048 w bitcasts_S256x2048_w16_S128x2048_w32) : FVec Ideal S128x2048 .f32) (ix2 i j) = w (ix2 ⟨2 * i.val + p.val, by omega⟩ j) := by
  pointwise

/-- Nibble `p` of x at an index. -/
theorem xHalf_apply (p : Fin 2) (xc : IVec S128x2048 8) (i : Fin 128) (j : Fin 2048) :
    xHalf (F := Ideal) p xc (ix2 i j) = code (xc (ix2 i j)) p := by
  refine (rows_apply _ p i j).trans ?_
  rw [bitcastToFloat_apply, bitcast_32_16]
  show Ideal.ofBits .bf16 ((wordOf (shapeCast S128x2048 xc _ _)).extractLsb' (16 * ((2 * i.val + p.val) % 2)) 16) = _
  unfold code
  have e2 : (2 * i.val + p.val) % 2 = p.val := by omega
  rw [e2]
  congr 3
  rw [shapeCast_self]
  refine congrArg xc ?_
  funext a
  match a with
  | ⟨0, _⟩ => exact Fin.ext (show (2 * i.val + p.val) / 2 = i.val by omega)
  | ⟨1, _⟩ => rfl

/-- The word arithmetic of the interleaving matrix: row `j` has its one in column `2 (j % 128) + j / 128`. -/
theorem perm_word : ∀ j : Fin 256, 2#32 * (BitVec.ofNat 32 j.val &&& 127#32) + (BitVec.ofNat 32 j.val).sshiftRight 7
    = BitVec.ofNat 32 (2 * (j.val % 128) + j.val / 128) := by decide +kernel

/-- The word arithmetic of the expanding matrix: column `c` belongs to scale `c / 16`. -/
theorem expand_word : ∀ c : Fin 256, (BitVec.ofNat 32 c.val).sshiftRight 4 = BitVec.ofNat 32 (c.val / 16) := by decide +kernel

/-- The condition of the alternation at an index. -/
theorem permCond_apply (j c : Fin 256) : permCond (ix2 j c) = BitVec.ofBool (decide (j.val = c.val / 2 + 128 * (c.val % 2))) := by
  have e : permCond (ix2 j c) = BitVec.ofBool (BitVec.ofNat 32 c.val ==
      (2#32 * (BitVec.ofNat 32 j.val &&& 127#32) + (BitVec.ofNat 32 j.val).sshiftRight 7)) := by
    pointwise
    rfl
  rw [e, perm_word]
  congr 1
  rw [Bool.eq_iff_iff, beq_iff_eq, decide_eq_true_iff, ← BitVec.toNat_inj, BitVec.toNat_ofNat, BitVec.toNat_ofNat,
    Nat.mod_eq_of_lt (by omega), Nat.mod_eq_of_lt (by omega)]
  have hj : j.val / 128 = 0 ∨ j.val / 128 = 1 := by omega
  have hc : c.val % 2 = 0 ∨ c.val % 2 = 1 := by omega
  rcases hj with hj | hj <;> rcases hc with hc | hc <;> rw [hj, hc] <;> constructor <;> intro e <;> omega

/-- The condition of the repetition at an index. -/
theorem expandCond_apply (t : ℕ) (ht : t < 16) (j c : Fin 256) :
    expandCond (BitVec.ofNat 32 (16 * t)) (ix2 j c) = BitVec.ofBool (decide (j.val = 16 * t + c.val / 16)) := by
  have e : expandCond (BitVec.ofNat 32 (16 * t)) (ix2 j c) = BitVec.ofBool (BitVec.ofNat 32 j.val ==
      (BitVec.ofNat 32 (16 * t) + (BitVec.ofNat 32 c.val).sshiftRight 4)) := by
    pointwise
    rfl
  rw [e, expand_word]
  congr 1
  rw [Bool.eq_iff_iff, beq_iff_eq, decide_eq_true_iff, ← BitVec.toNat_inj, BitVec.toNat_add, BitVec.toNat_ofNat, BitVec.toNat_ofNat, BitVec.toNat_ofNat]
  omega

/-- A 0/1 matrix at an index. -/
theorem zeroOne_apply (m : IVec S256x256 1) (j c : Fin 256) (q : Prop) [Decidable q] (h : m (ix2 j c) = BitVec.ofBool (decide q)) :
    zeroOne (F := Ideal) m (ix2 j c) = if q then (1 : EReal) else 0 := by
  by_cases hq : q
  · rw [if_pos hq]
    have h1 : m (ix2 j c) = 1#1 := by rw [h, decide_eq_true hq]; rfl
    pointwise [h1]
  · rw [if_neg hq]
    have h1 : m (ix2 j c) = 0#1 := by rw [h, decide_eq_false hq]; rfl
    pointwise [h1]

/-- A product with a 0/1 matrix that takes row `k` at column `c` reads `x` at `k`. -/
theorem pick_apply (x : FVec Ideal S128x256 .bf16) (m : IVec S256x256 1) (i : Fin 128) (c k : Fin 256)
    (h : ∀ j : Fin 256, m (ix2 j c) = BitVec.ofBool (decide (j = k))) :
    matmul dot_S128x256_S256x256_S128x256_1_0_0_1_n_n none x (zeroOne m) (constant S128x256 .f32 0x00000000#32) (ix2 i c) = x (ix2 i k) := by
  have e : matmul dot_S128x256_S256x256_S128x256_1_0_0_1_n_n none x (zeroOne m) (constant S128x256 .f32 0x00000000#32) (ix2 i c)
      = ∑ j : Fin 256, x (ix2 i j) * zeroOne (F := Ideal) m (ix2 j c) := by
    generalize zeroOne (F := Ideal) m = z
    pointwise
  rw [e, Finset.sum_eq_single k]
  · rw [zeroOne_apply m k c (k = k) (h k), if_pos rfl, mul_one]
  · intro j _ hj
    rw [zeroOne_apply m j c (j = k) (h j), if_neg hj, mul_zero]
  · intro hk; exact absurd (Finset.mem_univ k) hk

/-- The two halves side by side, at an index. -/
theorem xPair_apply (t : ℕ) (ht : t < 16) (h : S128x2048.Slices ![0, 128 * t] S128x128) (xc : IVec S128x2048 8) (i : Fin 128) (p : Fin 2) (j : Fin 128) :
    xPair (F := Ideal) ![0, 128 * t] h xc (ix2 i ⟨128 * p.val + j.val, by omega⟩) = code (xc (ix2 i ⟨128 * t + j.val, by omega⟩)) p := by
  have e := concatenate_ofFn_apply (t := S128x256) 1 (N := 2) (fun q : Fin 2 => extractStridedSlice S128x128 ![0, 128 * t] (xHalf (F := Ideal) q xc) h)
    concatenates_S128x128_S128x128_S128x256_d1 rfl 128 rfl (ix2 i ⟨128 * p.val + j.val, by omega⟩) p
    (by show (128 * p.val + j.val) / 128 = p.val; omega) (ix2 i j) (by show j.val = (128 * p.val + j.val) % 128; omega) (fun b hb => by
      match b with
      | ⟨0, _⟩ => rfl
      | ⟨1, _⟩ => exact absurd rfl hb)
  refine Eq.trans (show _ = _ from rfl) (e.trans ?_)
  rw [← xHalf_apply]
  generalize xHalf (F := Ideal) p xc = w
  pointwise

/-- The decoded x: column `r` is nibble `r % 2` of byte `r / 2` times scale `r / 16`. -/
def xArr (xc : IVec S128x2048 8) (xs : Vec Ideal S128x256 .fp8e4m3) : FVec Ideal S128x4096 .bf16 := fun y =>
  have h1 : (y 1).val < 4096 := (y 1).isLt
  (code (xc (ix2 (y 0) ⟨(y 1).val / 2, by omega⟩)) ⟨(y 1).val % 2, by omega⟩ * xs (ix2 (y 0) ⟨(y 1).val / 16, by omega⟩) : EReal)

/-- One chunk at an index. -/
theorem xChunk_apply (t : ℕ) (ht : t < 16) (h : S128x2048.Slices ![0, 128 * t] S128x128) (xc : IVec S128x2048 8) (xs : Vec Ideal S128x256 .fp8e4m3)
    (i : Fin 128) (c : Fin 256) :
    xChunk ![0, 128 * t] h (BitVec.ofNat 32 (16 * t)) xc xs (ix2 i c)
      = (code (xc (ix2 i ⟨128 * t + c.val / 2, by omega⟩)) ⟨c.val % 2, by omega⟩ * xs (ix2 i ⟨16 * t + c.val / 16, by omega⟩) : EReal) := by
  unfold xChunk
  rw [shapeCast_self]
  have e1 := pick_apply (xPair (F := Ideal) ![0, 128 * t] h xc) permCond i c ⟨128 * (c.val % 2) + c.val / 2, by omega⟩ (fun j => by
    rw [permCond_apply]
    congr 1
    exact decide_eq_decide.mpr ⟨fun e => Fin.ext (by show j.val = 128 * (c.val % 2) + c.val / 2; omega), fun e => by subst e; show 128 * (c.val % 2) + c.val / 2 = c.val / 2 + 128 * (c.val % 2); omega⟩)
  have e2 := pick_apply (xScale (F := Ideal) xs) (expandCond (BitVec.ofNat 32 (16 * t))) i c ⟨16 * t + c.val / 16, by omega⟩ (fun j => by
    rw [expandCond_apply t ht]
    congr 1
    exact decide_eq_decide.mpr ⟨fun e => Fin.ext e, fun e => by rw [e]⟩)
  rw [xPair_apply t ht h xc i ⟨c.val % 2, by omega⟩ ⟨c.val / 2, by omega⟩] at e1
  refine (congrArg₂ (fun a b : EReal => a * b) e1 e2).trans ?_
  refine congrArg _ ?_
  pointwise

/-- One store at an index of the scratch. -/
theorem x_piece (xc : IVec S128x2048 8) (xs : Vec Ideal S128x256 .fp8e4m3) (t : ℕ) (ht : t < 16) (h : S128x2048.Slices ![0, 128 * t] S128x128)
    (x : S128x256.Idx) (y : S128x4096.Idx) (h0 : (y 0).val = (x 0).val) (h1 : (y 1).val = 256 * t + (x 1).val) :
    xChunk ![0, 128 * t] h (BitVec.ofNat 32 (16 * t)) xc xs x = xArr xc xs y := by
  obtain ⟨x0, x1, rfl⟩ : ∃ (a : Fin 128) (b : Fin 256), x = ix2 a b :=
    ⟨x 0, x 1, by funext a; match a with | ⟨0, _⟩ => rfl | ⟨1, _⟩ => rfl⟩
  rw [xChunk_apply t ht]
  have h0' : y 0 = x0 := Fin.ext h0
  have h1' : (y 1).val = 256 * t + x1.val := h1
  unfold xArr
  dsimp only
  rw [h0']
  have a1 : (⟨128 * t + x1.val / 2, by omega⟩ : Fin 2048) = ⟨(y 1).val / 2, by omega⟩ := Fin.ext (by show 128 * t + x1.val / 2 = (y 1).val / 2; omega)
  have a2 : (⟨x1.val % 2, by omega⟩ : Fin 2) = ⟨(y 1).val % 2, by omega⟩ := Fin.ext (by show x1.val % 2 = (y 1).val % 2; omega)
  have a3 : (⟨16 * t + x1.val / 16, by omega⟩ : Fin 256) = ⟨(y 1).val / 16, by omega⟩ := Fin.ext (by show 16 * t + x1.val / 16 = (y 1).val / 16; omega)
  rw [a1, a2, a3]

/-- What the sixteen stores leave, read whole. -/
theorem x_read {sig : RefSig} {κ : Kind} {sp : Space} (v : View sig κ sp S128x4096 .bf16) (f : v.ty.Contents (Elt Ideal)) (xc : IVec S128x2048 8)
    (xs : Vec Ideal S128x256 .fp8e4m3) : v.read (Elt Ideal) (v.writes (Elt Ideal) f (xPieces xc xs)) = xArr xc xs := by
  rw [View.read_writes_eq_canon _ _ _ (x_cover xc xs)]
  have hc := x_cover xc xs
  unfold xPieces at hc ⊢
  funext y
  canon_tiles x h using hc y
  · exact x_piece xc xs 15 (by decide) slices_S128x2048_o0_1920_S128x128 x y (by omega) (by omega)
  · exact x_piece xc xs 14 (by decide) slices_S128x2048_o0_1792_S128x128 x y (by omega) (by omega)
  · exact x_piece xc xs 13 (by decide) slices_S128x2048_o0_1664_S128x128 x y (by omega) (by omega)
  · exact x_piece xc xs 12 (by decide) slices_S128x2048_o0_1536_S128x128 x y (by omega) (by omega)
  · exact x_piece xc xs 11 (by decide) slices_S128x2048_o0_1408_S128x128 x y (by omega) (by omega)
  · exact x_piece xc xs 10 (by decide) slices_S128x2048_o0_1280_S128x128 x y (by omega) (by omega)
  · exact x_piece xc xs 9 (by decide) slices_S128x2048_o0_1152_S128x128 x y (by omega) (by omega)
  · exact x_piece xc xs 8 (by decide) slices_S128x2048_o0_1024_S128x128 x y (by omega) (by omega)
  · exact x_piece xc xs 7 (by decide) slices_S128x2048_o0_896_S128x128 x y (by omega) (by omega)
  · exact x_piece xc xs 6 (by decide) slices_S128x2048_o0_768_S128x128 x y (by omega) (by omega)
  · exact x_piece xc xs 5 (by decide) slices_S128x2048_o0_640_S128x128 x y (by omega) (by omega)
  · exact x_piece xc xs 4 (by decide) slices_S128x2048_o0_512_S128x128 x y (by omega) (by omega)
  · exact x_piece xc xs 3 (by decide) slices_S128x2048_o0_384_S128x128 x y (by omega) (by omega)
  · exact x_piece xc xs 2 (by decide) slices_S128x2048_o0_256_S128x128 x y (by omega) (by omega)
  · exact x_piece xc xs 1 (by decide) slices_S128x2048_o0_128_S128x128 x y (by omega) (by omega)
  · exact x_piece xc xs 0 (by decide) slices_S128x2048_o0_0_S128x128 x y (by omega) (by omega)

end Cert.KernelIdeal.Val
-- ==== Proof.OutA.lean ====
module

public import proofs.«01_k».proof.Proof.Gen.KernelIdeal.Frame
public import proofs.«01_k».proof.Proof.Loop
public import proofs.«01_k».proof.Proof.Out
public import proofs.«01_k».proof.Proof.XPrep

/-!
# The output block of the first grid point

Eight stores fill the [128, 2048] output block: four groups of 512 columns, two halves of 64 rows each. At grid point 0
x is decoded into the scratch first, and read back from it.
-/

@[expose] public section

set_option maxHeartbeats 4000000

noncomputable section

namespace Cert.KernelIdeal.Val

open Idealize.ShloMosaic Idealize.ShloMosaic.TcCoe Idealize.SL.Sem Cert.KernelIdeal Cert.KernelIdeal.Gen

/-- The scale scratch of the first grid point: the sixteen stores of `scalePieces`. -/
theorem scalesA (c : Dev nD) (arg6 : Memref sig .tc .vmem S256x2048 .fp8e4m3) (harg6 : arg6.IsWhole) (x5 : Vec Ideal S256x2048 .fp8e4m3) :
    kernelRun0_A.sl.HS1_16 (F := Ideal) c arg6 harg6 x5 = scalePieces x5 :=
  (show _ = scalePieces (arg6.view.read (Elt Ideal) (harg6.unread x5)) from rfl).trans (by rw [harg6.read_unread])

/-- A load of a whole array reads the array. -/
theorem ld_whole {S : Shape} {e : EltTy} (off : Fin S.rank → ℕ) (h : ∀ a, off a = 0) (inb) (x : Vec Ideal S e) :
    View.ld (Val := Elt Ideal) (e' := e) x (Rect.unit (s := S) off S.size inb) = x := by
  funext y
  rw [View.ld_apply]
  refine congrArg x ?_
  funext a
  exact Fin.ext (by show _ = (y a).val; rw [Rect.idx_unit_val, h a, Nat.zero_add])

/-- The stores of the decoded x at the first grid point. -/
theorem stores_A (c : Dev nD) (arg3 : Memref sig .tc .vmem S128x2048 .i8) (harg3 : arg3.IsWhole) (arg4 : Memref sig .tc .vmem S128x256 .fp8e4m3)
    (harg4 : arg4.IsWhole) (x2 : Vec Ideal S128x2048 .i8) (x3 : Vec Ideal S128x256 .fp8e4m3) :
    kernelRun0_A.sl.HS0_16 (F := Ideal) c arg3 harg3 arg4 harg4 x2 x3 = xPieces x2 x3 := by
  have e : kernelRun0_A.sl.HS0_16 (F := Ideal) c arg3 harg3 arg4 harg4 x2 x3
      = xPieces (View.ld (Val := Elt Ideal) (e' := .i8) (arg3.view.read (Elt Ideal) (harg3.unread x2)) (Rect.unit (s := S128x2048) ![0, 0] S128x2048.size inb_S128x2048_S128x2048_0_0))
        (View.ld (Val := Elt Ideal) (e' := .fp8e4m3) (arg4.view.read (Elt Ideal) (harg4.unread x3)) (Rect.unit (s := S128x256) ![0, 0] S128x256.size inb_S128x256_S128x256_0_0)) := rfl
  rw [e, harg3.read_unread, harg4.read_unread, ld_whole (S := S128x2048) _ (by decide), ld_whole (S := S128x256) _ (by decide)]

/-- The output block at an index: the sixteen contributions summed, times the two gains. -/
theorem outA (c : Dev nD) (i : grid0.Coords) (arg1 : Memref sig .tc .smem S2 .f32) (harg1 : arg1.IsWhole) (arg2 : Memref sig .tc .smem S1 .f32) (harg2 : arg2.IsWhole) (arg3 : Memref sig .tc .vmem S128x2048 .i8) (harg3 : arg3.IsWhole) (arg4 : Memref sig .tc .vmem S128x256 .fp8e4m3) (harg4 : arg4.IsWhole) (arg5 : Memref sig .tc .vmem S2048x2048 .i8) (harg5 : arg5.IsWhole) (arg6 : Memref sig .tc .vmem S256x2048 .fp8e4m3) (harg6 : arg6.IsWhole) (arg7 : Memref sig .tc .vmem S128x2048 .bf16) (harg7 : arg7.IsWhole) (arg8 : Memref sig .tc .vmem S128x4096 .bf16) (harg8 : arg8.IsWhole) (arg9 : Memref sig .tc .vmem S16x256x2x128 .bf16) (harg9 : arg9.IsWhole) (hc0 : cond0_0 i)     (x0 : Vec Ideal S2 .f32) (x1 : Vec Ideal S1 .f32) (x2 : Vec Ideal S128x2048 .i8) (x3 : Vec Ideal S128x256 .fp8e4m3) (x4 : Vec Ideal S2048x2048 .i8) (x5 : Vec Ideal S256x2048 .fp8e4m3) (y : S128x2048.Idx) : out0_A_6 (F := Ideal) c i arg1 harg1 arg2 harg2 arg3 harg3 arg4 harg4 arg5 harg5 arg6 harg6 arg7 harg7 arg8 harg8 arg9 harg9 hc0 x0 x1 x2 x3 x4 x5 y = outVal (xArr x2 x3) x4 (scaleArr x5) x0 x1 y := by
  have hS : arg9.view.read (Elt Ideal) (arg9.view.writes (Elt Ideal) arg9.view.junk (kernelRun0_A.sl.HS1_16 c arg6 harg6 x5)) = scaleArr x5 := by
    rw [scalesA]; exact scales_read _ _ _
  have hX : arg8.view.read (Elt Ideal) (arg8.view.writes (Elt Ideal) arg8.view.junk (kernelRun0_A.sl.HS0_16 c arg3 harg3 arg4 harg4 x2 x3)) = xArr x2 x3 := by
    rw [stores_A]; exact x_read _ _ _ _
  have hW : arg5.view.read (Elt Ideal) (harg5.unread x4) = x4 := harg5.read_unread _
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4 x5)]
  unfold kernelRun0_A
  dsimp only
  canon_tiles x h
  · refine out_piece 1 1536 (by decide) (by decide) (xArr x2 x3) x4 (scaleArr x5) x0 x1 (st_k0_t4 Variants.none c none i arg1 harg1 arg2 harg2 arg3 harg3 arg4 harg4 arg5 harg5 arg6 harg6 arg7 harg7 arg8 harg8 arg9 harg9 _ _ (harg5.unread x4) (arg8.view.writes (Elt Ideal) arg8.view.junk (kernelRun0_A.sl.HS0_16 c arg3 harg3 arg4 harg4 x2 x3)) (arg9.view.writes (Elt Ideal) arg9.view.junk (kernelRun0_A.sl.HS1_16 c arg6 harg6 x5)) _ 16)
      _ _ (gain_read arg1 harg1 x0 1 _ _) (gain_read arg2 harg2 x1 0 _ _)
      (fun r n => (st4 Variants.none c none i arg1 harg1 arg2 harg2 arg3 harg3 arg4 harg4 arg5 harg5 arg6 harg6 arg7 harg7 arg8 harg8 arg9 harg9 _ _ _ _ _ _ init_zero r n 16 (le_refl _)).trans (by rw [hX, hW, hS])) x y (by omega) (by omega)
  · refine out_piece 0 1536 (by decide) (by decide) (xArr x2 x3) x4 (scaleArr x5) x0 x1 (st_k0_t4 Variants.none c none i arg1 harg1 arg2 harg2 arg3 harg3 arg4 harg4 arg5 harg5 arg6 harg6 arg7 harg7 arg8 harg8 arg9 harg9 _ _ (harg5.unread x4) (arg8.view.writes (Elt Ideal) arg8.view.junk (kernelRun0_A.sl.HS0_16 c arg3 harg3 arg4 harg4 x2 x3)) (arg9.view.writes (Elt Ideal) arg9.view.junk (kernelRun0_A.sl.HS1_16 c arg6 harg6 x5)) _ 16)
      _ _ (gain_read arg1 harg1 x0 0 _ _) (gain_read arg2 harg2 x1 0 _ _)
      (fun r n => (st4 Variants.none c none i arg1 harg1 arg2 harg2 arg3 harg3 arg4 harg4 arg5 harg5 arg6 harg6 arg7 harg7 arg8 harg8 arg9 harg9 _ _ _ _ _ _ init_zero r n 16 (le_refl _)).trans (by rw [hX, hW, hS])) x y (by omega) (by omega)
  · refine out_piece 1 1024 (by decide) (by decide) (xArr x2 x3) x4 (scaleArr x5) x0 x1 (st_k0_t3 Variants.none c none i arg1 harg1 arg2 harg2 arg3 harg3 arg4 harg4 arg5 harg5 arg6 harg6 arg7 harg7 arg8 harg8 arg9 harg9 _ _ (harg5.unread x4) (arg8.view.writes (Elt Ideal) arg8.view.junk (kernelRun0_A.sl.HS0_16 c arg3 harg3 arg4 harg4 x2 x3)) (arg9.view.writes (Elt Ideal) arg9.view.junk (kernelRun0_A.sl.HS1_16 c arg6 harg6 x5)) _ 16)
      _ _ (gain_read arg1 harg1 x0 1 _ _) (gain_read arg2 harg2 x1 0 _ _)
      (fun r n => (st3 Variants.none c none i arg1 harg1 arg2 harg2 arg3 harg3 arg4 harg4 arg5 harg5 arg6 harg6 arg7 harg7 arg8 harg8 arg9 harg9 _ _ _ _ _ _ init_zero r n 16 (le_refl _)).trans (by rw [hX, hW, hS])) x y (by omega) (by omega)
  · refine out_piece 0 1024 (by decide) (by decide) (xArr x2 x3) x4 (scaleArr x5) x0 x1 (st_k0_t3 Variants.none c none i arg1 harg1 arg2 harg2 arg3 harg3 arg4 harg4 arg5 harg5 arg6 harg6 arg7 harg7 arg8 harg8 arg9 harg9 _ _ (harg5.unread x4) (arg8.view.writes (Elt Ideal) arg8.view.junk (kernelRun0_A.sl.HS0_16 c arg3 harg3 arg4 harg4 x2 x3)) (arg9.view.writes (Elt Ideal) arg9.view.junk (kernelRun0_A.sl.HS1_16 c arg6 harg6 x5)) _ 16)
      _ _ (gain_read arg1 harg1 x0 0 _ _) (gain_read arg2 harg2 x1 0 _ _)
      (fun r n => (st3 Variants.none c none i arg1 harg1 arg2 harg2 arg3 harg3 arg4 harg4 arg5 harg5 arg6 harg6 arg7 harg7 arg8 harg8 arg9 harg9 _ _ _ _ _ _ init_zero r n 16 (le_refl _)).trans (by rw [hX, hW, hS])) x y (by omega) (by omega)
  · refine out_piece 1 512 (by decide) (by decide) (xArr x2 x3) x4 (scaleArr x5) x0 x1 (st_k0_t2 Variants.none c none i arg1 harg1 arg2 harg2 arg3 harg3 arg4 harg4 arg5 harg5 arg6 harg6 arg7 harg7 arg8 harg8 arg9 harg9 _ _ (harg5.unread x4) (arg8.view.writes (Elt Ideal) arg8.view.junk (kernelRun0_A.sl.HS0_16 c arg3 harg3 arg4 harg4 x2 x3)) (arg9.view.writes (Elt Ideal) arg9.view.junk (kernelRun0_A.sl.HS1_16 c arg6 harg6 x5)) _ 16)
      _ _ (gain_read arg1 harg1 x0 1 _ _) (gain_read arg2 harg2 x1 0 _ _)
      (fun r n => (st2 Variants.none c none i arg1 harg1 arg2 harg2 arg3 harg3 arg4 harg4 arg5 harg5 arg6 harg6 arg7 harg7 arg8 harg8 arg9 harg9 _ _ _ _ _ _ init_zero r n 16 (le_refl _)).trans (by rw [hX, hW, hS])) x y (by omega) (by omega)
  · refine out_piece 0 512 (by decide) (by decide) (xArr x2 x3) x4 (scaleArr x5) x0 x1 (st_k0_t2 Variants.none c none i arg1 harg1 arg2 harg2 arg3 harg3 arg4 harg4 arg5 harg5 arg6 harg6 arg7 harg7 arg8 harg8 arg9 harg9 _ _ (harg5.unread x4) (arg8.view.writes (Elt Ideal) arg8.view.junk (kernelRun0_A.sl.HS0_16 c arg3 harg3 arg4 harg4 x2 x3)) (arg9.view.writes (Elt Ideal) arg9.view.junk (kernelRun0_A.sl.HS1_16 c arg6 harg6 x5)) _ 16)
      _ _ (gain_read arg1 harg1 x0 0 _ _) (gain_read arg2 harg2 x1 0 _ _)
      (fun r n => (st2 Variants.none c none i arg1 harg1 arg2 harg2 arg3 harg3 arg4 harg4 arg5 harg5 arg6 harg6 arg7 harg7 arg8 harg8 arg9 harg9 _ _ _ _ _ _ init_zero r n 16 (le_refl _)).trans (by rw [hX, hW, hS])) x y (by omega) (by omega)
  · refine out_piece 1 0 (by decide) (by decide) (xArr x2 x3) x4 (scaleArr x5) x0 x1 (st_k0_t1 Variants.none c none i arg1 harg1 arg2 harg2 arg3 harg3 arg4 harg4 arg5 harg5 arg6 harg6 arg7 harg7 arg8 harg8 arg9 harg9 _ _ (harg5.unread x4) (arg8.view.writes (Elt Ideal) arg8.view.junk (kernelRun0_A.sl.HS0_16 c arg3 harg3 arg4 harg4 x2 x3)) (arg9.view.writes (Elt Ideal) arg9.view.junk (kernelRun0_A.sl.HS1_16 c arg6 harg6 x5)) _ 16)
      _ _ (gain_read arg1 harg1 x0 1 _ _) (gain_read arg2 harg2 x1 0 _ _)
      (fun r n => (st1 Variants.none c none i arg1 harg1 arg2 harg2 arg3 harg3 arg4 harg4 arg5 harg5 arg6 harg6 arg7 harg7 arg8 harg8 arg9 harg9 _ _ _ _ _ _ rfl init_zero r n 16 (le_refl _)).trans (by rw [hX, hW, hS])) x y (by omega) (by omega)
  · refine out_piece 0 0 (by decide) (by decide) (xArr x2 x3) x4 (scaleArr x5) x0 x1 (st_k0_t1 Variants.none c none i arg1 harg1 arg2 harg2 arg3 harg3 arg4 harg4 arg5 harg5 arg6 harg6 arg7 harg7 arg8 harg8 arg9 harg9 _ _ (harg5.unread x4) (arg8.view.writes (Elt Ideal) arg8.view.junk (kernelRun0_A.sl.HS0_16 c arg3 harg3 arg4 harg4 x2 x3)) (arg9.view.writes (Elt Ideal) arg9.view.junk (kernelRun0_A.sl.HS1_16 c arg6 harg6 x5)) _ 16)
      _ _ (gain_read arg1 harg1 x0 0 _ _) (gain_read arg2 harg2 x1 0 _ _)
      (fun r n => (st1 Variants.none c none i arg1 harg1 arg2 harg2 arg3 harg3 arg4 harg4 arg5 harg5 arg6 harg6 arg7 harg7 arg8 harg8 arg9 harg9 _ _ _ _ _ _ rfl init_zero r n 16 (le_refl _)).trans (by rw [hX, hW, hS])) x y (by omega) (by omega)

/-- What the first grid point leaves in the scratch: the decoded x. -/
theorem soutA (c : Dev nD) (i : grid0.Coords) (arg1 : Memref sig .tc .smem S2 .f32) (harg1 : arg1.IsWhole) (arg2 : Memref sig .tc .smem S1 .f32) (harg2 : arg2.IsWhole) (arg3 : Memref sig .tc .vmem S128x2048 .i8) (harg3 : arg3.IsWhole) (arg4 : Memref sig .tc .vmem S128x256 .fp8e4m3) (harg4 : arg4.IsWhole) (arg5 : Memref sig .tc .vmem S2048x2048 .i8) (harg5 : arg5.IsWhole) (arg6 : Memref sig .tc .vmem S256x2048 .fp8e4m3) (harg6 : arg6.IsWhole) (arg7 : Memref sig .tc .vmem S128x2048 .bf16) (harg7 : arg7.IsWhole) (arg8 : Memref sig .tc .vmem S128x4096 .bf16) (harg8 : arg8.IsWhole) (arg9 : Memref sig .tc .vmem S16x256x2x128 .bf16) (harg9 : arg9.IsWhole) (hc0 : cond0_0 i)     (x0 : Vec Ideal S2 .f32) (x1 : Vec Ideal S1 .f32) (x2 : Vec Ideal S128x2048 .i8) (x3 : Vec Ideal S128x256 .fp8e4m3) (x4 : Vec Ideal S2048x2048 .i8) (x5 : Vec Ideal S256x2048 .fp8e4m3) : sout0_A_0 (F := Ideal) c i arg1 harg1 arg2 harg2 arg3 harg3 arg4 harg4 arg5 harg5 arg6 harg6 arg7 harg7 arg8 harg8 arg9 harg9 hc0 x0 x1 x2 x3 x4 x5 = xArr x2 x3 := by
  unfold sout0_A_0
  unfold kernelRun0_A
  dsimp only
  rw [stores_A]
  exact x_read _ _ _ _
end Cert.KernelIdeal.Val
-- ==== Proof.OutB.lean ====
module

public import proofs.«01_k».proof.Proof.Gen.KernelIdeal.Frame
public import proofs.«01_k».proof.Proof.Loop
public import proofs.«01_k».proof.Proof.Out

/-!
# The output block of a grid point after the first

Eight stores fill the [128, 2048] output block: four groups of 512 columns, two halves of 64 rows each. Away from grid
point 0 the decoded x stands in the scratch from the point before.
-/

@[expose] public section

set_option maxHeartbeats 4000000

noncomputable section

namespace Cert.KernelIdeal.Val

open Idealize.ShloMosaic Idealize.ShloMosaic.TcCoe Idealize.SL.Sem Cert.KernelIdeal Cert.KernelIdeal.Gen

/-- The scale scratch of a grid point after the first: the sixteen stores of `scalePieces`. -/
theorem scalesB (c : Dev nD) (arg6 : Memref sig .tc .vmem S256x2048 .fp8e4m3) (harg6 : arg6.IsWhole) (x5 : Vec Ideal S256x2048 .fp8e4m3) :
    kernelRun0_B.sl.HS1_16 (F := Ideal) c arg6 harg6 x5 = scalePieces x5 :=
  (show _ = scalePieces (arg6.view.read (Elt Ideal) (harg6.unread x5)) from rfl).trans (by rw [harg6.read_unread])

/-- The output block at an index: the sixteen contributions summed, times the two gains. -/
theorem outB (c : Dev nD) (i : grid0.Coords) (arg1 : Memref sig .tc .smem S2 .f32) (harg1 : arg1.IsWhole) (arg2 : Memref sig .tc .smem S1 .f32) (harg2 : arg2.IsWhole) (arg3 : Memref sig .tc .vmem S128x2048 .i8) (harg3 : arg3.IsWhole) (arg4 : Memref sig .tc .vmem S128x256 .fp8e4m3) (harg4 : arg4.IsWhole) (arg5 : Memref sig .tc .vmem S2048x2048 .i8) (harg5 : arg5.IsWhole) (arg6 : Memref sig .tc .vmem S256x2048 .fp8e4m3) (harg6 : arg6.IsWhole) (arg7 : Memref sig .tc .vmem S128x2048 .bf16) (harg7 : arg7.IsWhole) (arg8 : Memref sig .tc .vmem S128x4096 .bf16) (harg8 : arg8.IsWhole) (arg9 : Memref sig .tc .vmem S16x256x2x128 .bf16) (harg9 : arg9.IsWhole) (hc0 : ¬cond0_0 i)     (x0 : Vec Ideal S2 .f32) (x1 : Vec Ideal S1 .f32) (x2 : Vec Ideal S128x2048 .i8) (x3 : Vec Ideal S128x256 .fp8e4m3) (x4 : Vec Ideal S2048x2048 .i8) (x5 : Vec Ideal S256x2048 .fp8e4m3) (xs0 : Vec Ideal S128x4096 .bf16) (y : S128x2048.Idx) : out0_B_6 (F := Ideal) c i arg1 harg1 arg2 harg2 arg3 harg3 arg4 harg4 arg5 harg5 arg6 harg6 arg7 harg7 arg8 harg8 arg9 harg9 hc0 x0 x1 x2 x3 x4 x5 xs0 y = outVal xs0 x4 (scaleArr x5) x0 x1 y := by
  have hS : arg9.view.read (Elt Ideal) (arg9.view.writes (Elt Ideal) arg9.view.junk (kernelRun0_B.sl.HS1_16 c arg6 harg6 x5)) = scaleArr x5 := by
    rw [scalesB]; exact scales_read _ _ _
  have hX : arg8.view.read (Elt Ideal) (harg8.unread xs0) = xs0 := harg8.read_unread _
  have hW : arg5.view.read (Elt Ideal) (harg5.unread x4) = x4 := harg5.read_unread _
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 x5 xs0)]
  unfold kernelRun0_B
  dsimp only
  canon_tiles x h
  · refine out_piece 1 1536 (by decide) (by decide) xs0 x4 (scaleArr x5) x0 x1 (st_k0_t4 Variants.none c none i arg1 harg1 arg2 harg2 arg3 harg3 arg4 harg4 arg5 harg5 arg6 harg6 arg7 harg7 arg8 harg8 arg9 harg9 _ _ (harg5.unread x4) (harg8.unread xs0) (arg9.view.writes (Elt Ideal) arg9.view.junk (kernelRun0_B.sl.HS1_16 c arg6 harg6 x5)) _ 16)
      _ _ (gain_read arg1 harg1 x0 1 _ _) (gain_read arg2 harg2 x1 0 _ _)
      (fun r n => (st4 Variants.none c none i arg1 harg1 arg2 harg2 arg3 harg3 arg4 harg4 arg5 harg5 arg6 harg6 arg7 harg7 arg8 harg8 arg9 harg9 _ _ _ _ _ _ init_zero r n 16 (le_refl _)).trans (by rw [hX, hW, hS])) x y (by omega) (by omega)
  · refine out_piece 0 1536 (by decide) (by decide) xs0 x4 (scaleArr x5) x0 x1 (st_k0_t4 Variants.none c none i arg1 harg1 arg2 harg2 arg3 harg3 arg4 harg4 arg5 harg5 arg6 harg6 arg7 harg7 arg8 harg8 arg9 harg9 _ _ (harg5.unread x4) (harg8.unread xs0) (arg9.view.writes (Elt Ideal) arg9.view.junk (kernelRun0_B.sl.HS1_16 c arg6 harg6 x5)) _ 16)
      _ _ (gain_read arg1 harg1 x0 0 _ _) (gain_read arg2 harg2 x1 0 _ _)
      (fun r n => (st4 Variants.none c none i arg1 harg1 arg2 harg2 arg3 harg3 arg4 harg4 arg5 harg5 arg6 harg6 arg7 harg7 arg8 harg8 arg9 harg9 _ _ _ _ _ _ init_zero r n 16 (le_refl _)).trans (by rw [hX, hW, hS])) x y (by omega) (by omega)
  · refine out_piece 1 1024 (by decide) (by decide) xs0 x4 (scaleArr x5) x0 x1 (st_k0_t3 Variants.none c none i arg1 harg1 arg2 harg2 arg3 harg3 arg4 harg4 arg5 harg5 arg6 harg6 arg7 harg7 arg8 harg8 arg9 harg9 _ _ (harg5.unread x4) (harg8.unread xs0) (arg9.view.writes (Elt Ideal) arg9.view.junk (kernelRun0_B.sl.HS1_16 c arg6 harg6 x5)) _ 16)
      _ _ (gain_read arg1 harg1 x0 1 _ _) (gain_read arg2 harg2 x1 0 _ _)
      (fun r n => (st3 Variants.none c none i arg1 harg1 arg2 harg2 arg3 harg3 arg4 harg4 arg5 harg5 arg6 harg6 arg7 harg7 arg8 harg8 arg9 harg9 _ _ _ _ _ _ init_zero r n 16 (le_refl _)).trans (by rw [hX, hW, hS])) x y (by omega) (by omega)
  · refine out_piece 0 1024 (by decide) (by decide) xs0 x4 (scaleArr x5) x0 x1 (st_k0_t3 Variants.none c none i arg1 harg1 arg2 harg2 arg3 harg3 arg4 harg4 arg5 harg5 arg6 harg6 arg7 harg7 arg8 harg8 arg9 harg9 _ _ (harg5.unread x4) (harg8.unread xs0) (arg9.view.writes (Elt Ideal) arg9.view.junk (kernelRun0_B.sl.HS1_16 c arg6 harg6 x5)) _ 16)
      _ _ (gain_read arg1 harg1 x0 0 _ _) (gain_read arg2 harg2 x1 0 _ _)
      (fun r n => (st3 Variants.none c none i arg1 harg1 arg2 harg2 arg3 harg3 arg4 harg4 arg5 harg5 arg6 harg6 arg7 harg7 arg8 harg8 arg9 harg9 _ _ _ _ _ _ init_zero r n 16 (le_refl _)).trans (by rw [hX, hW, hS])) x y (by omega) (by omega)
  · refine out_piece 1 512 (by decide) (by decide) xs0 x4 (scaleArr x5) x0 x1 (st_k0_t2 Variants.none c none i arg1 harg1 arg2 harg2 arg3 harg3 arg4 harg4 arg5 harg5 arg6 harg6 arg7 harg7 arg8 harg8 arg9 harg9 _ _ (harg5.unread x4) (harg8.unread xs0) (arg9.view.writes (Elt Ideal) arg9.view.junk (kernelRun0_B.sl.HS1_16 c arg6 harg6 x5)) _ 16)
      _ _ (gain_read arg1 harg1 x0 1 _ _) (gain_read arg2 harg2 x1 0 _ _)
      (fun r n => (st2 Variants.none c none i arg1 harg1 arg2 harg2 arg3 harg3 arg4 harg4 arg5 harg5 arg6 harg6 arg7 harg7 arg8 harg8 arg9 harg9 _ _ _ _ _ _ init_zero r n 16 (le_refl _)).trans (by rw [hX, hW, hS])) x y (by omega) (by omega)
  · refine out_piece 0 512 (by decide) (by decide) xs0 x4 (scaleArr x5) x0 x1 (st_k0_t2 Variants.none c none i arg1 harg1 arg2 harg2 arg3 harg3 arg4 harg4 arg5 harg5 arg6 harg6 arg7 harg7 arg8 harg8 arg9 harg9 _ _ (harg5.unread x4) (harg8.unread xs0) (arg9.view.writes (Elt Ideal) arg9.view.junk (kernelRun0_B.sl.HS1_16 c arg6 harg6 x5)) _ 16)
      _ _ (gain_read arg1 harg1 x0 0 _ _) (gain_read arg2 harg2 x1 0 _ _)
      (fun r n => (st2 Variants.none c none i arg1 harg1 arg2 harg2 arg3 harg3 arg4 harg4 arg5 harg5 arg6 harg6 arg7 harg7 arg8 harg8 arg9 harg9 _ _ _ _ _ _ init_zero r n 16 (le_refl _)).trans (by rw [hX, hW, hS])) x y (by omega) (by omega)
  · refine out_piece 1 0 (by decide) (by decide) xs0 x4 (scaleArr x5) x0 x1 (st_k0_t1 Variants.none c none i arg1 harg1 arg2 harg2 arg3 harg3 arg4 harg4 arg5 harg5 arg6 harg6 arg7 harg7 arg8 harg8 arg9 harg9 _ _ (harg5.unread x4) (harg8.unread xs0) (arg9.view.writes (Elt Ideal) arg9.view.junk (kernelRun0_B.sl.HS1_16 c arg6 harg6 x5)) _ 16)
      _ _ (gain_read arg1 harg1 x0 1 _ _) (gain_read arg2 harg2 x1 0 _ _)
      (fun r n => (st1 Variants.none c none i arg1 harg1 arg2 harg2 arg3 harg3 arg4 harg4 arg5 harg5 arg6 harg6 arg7 harg7 arg8 harg8 arg9 harg9 _ _ _ _ _ _ rfl init_zero r n 16 (le_refl _)).trans (by rw [hX, hW, hS])) x y (by omega) (by omega)
  · refine out_piece 0 0 (by decide) (by decide) xs0 x4 (scaleArr x5) x0 x1 (st_k0_t1 Variants.none c none i arg1 harg1 arg2 harg2 arg3 harg3 arg4 harg4 arg5 harg5 arg6 harg6 arg7 harg7 arg8 harg8 arg9 harg9 _ _ (harg5.unread x4) (harg8.unread xs0) (arg9.view.writes (Elt Ideal) arg9.view.junk (kernelRun0_B.sl.HS1_16 c arg6 harg6 x5)) _ 16)
      _ _ (gain_read arg1 harg1 x0 0 _ _) (gain_read arg2 harg2 x1 0 _ _)
      (fun r n => (st1 Variants.none c none i arg1 harg1 arg2 harg2 arg3 harg3 arg4 harg4 arg5 harg5 arg6 harg6 arg7 harg7 arg8 harg8 arg9 harg9 _ _ _ _ _ _ rfl init_zero r n 16 (le_refl _)).trans (by rw [hX, hW, hS])) x y (by omega) (by omega)

end Cert.KernelIdeal.Val
-- ==== Proof.Sums.lean ====
module

public import proofs.«01_k».proof.Proof.Part

/-!
# The sum, in two orders

The kernel adds 4096 products in sixteen trips of 256, the two nibbles of a byte in turn; the reference adds the 2048
products of the low nibbles, then the 2048 of the high ones. Over the extended reals, addition being commutative and
associative, the two are one.
-/

@[expose] public section

noncomputable section

namespace Cert.KernelIdeal.Val

open Idealize.ShloMosaic Cert.KernelIdeal

variable [Facts₀]

/-- Pairs added in turn: evens and odds. -/
theorem sum_pairs (h : ℕ → ℕ → EReal) (N : ℕ) : ∑ k ∈ Finset.range (2 * N), h (k / 2) (k % 2) = ∑ j ∈ Finset.range N, (h j 0 + h j 1) := by
  induction N with
  | zero => rfl
  | succ N ih =>
    rw [show 2 * (N + 1) = 2 * N + 1 + 1 from by omega, Finset.sum_range_succ, Finset.sum_range_succ, ih, Finset.sum_range_succ]
    have e0 : 2 * N / 2 = N := by omega
    have e1 : 2 * N % 2 = 0 := by omega
    have e2 : (2 * N + 1) / 2 = N := by omega
    have e3 : (2 * N + 1) % 2 = 1 := by omega
    rw [e0, e1, e2, e3, add_assoc]

/-- Consecutive blocks added in turn: one long sum. -/
theorem sum_blocks (f : ℕ → EReal) (w N : ℕ) : ∑ u ∈ Finset.range N, ∑ j ∈ Finset.range w, f (w * u + j) = ∑ b ∈ Finset.range (w * N), f b := by
  induction N with
  | zero => rfl
  | succ N ih => rw [Finset.sum_range_succ, ih, Nat.mul_succ, Finset.sum_range_add]

/-- The two orders of the 4096 products. -/
theorem sum_orders (g : ℕ → ℕ → EReal) :
    ∑ u ∈ Finset.range 16, ∑ k ∈ Finset.range 256, g (128 * u + k / 2) (k % 2)
      = ∑ b ∈ Finset.range 2048, g b 0 + ∑ b ∈ Finset.range 2048, g b 1 := by
  rw [← Finset.sum_add_distrib, ← sum_blocks (fun b => g b 0 + g b 1) 128 16]
  exact Finset.sum_congr rfl fun u _ => sum_pairs (fun j p => g (128 * u + j) p) 128

/-- The product of one nibble of x with one nibble of the weights, both scaled. -/
def term (xc : (⟨3, ![1, 128, 2048]⟩ : Shape).Idx → BitVec 8) (xs : (⟨3, ![1, 128, 256]⟩ : Shape).Idx → EReal)
    (wc : (⟨2, ![2048, 14336]⟩ : Shape).Idx → BitVec 8) (ws : (⟨2, ![256, 14336]⟩ : Shape).Idx → EReal)
    (i : Fin 128) (n : Fin 14336) (b : Fin 2048) (p : Fin 2) : EReal :=
  (code (xc (ix3 0 i b)) p * xs (ix3 0 i ⟨b.val / 8, by omega⟩)) * (code (wc (ix2 b n)) p * ws (ix2 ⟨b.val / 8, by omega⟩ n))

/-- The linear layer at an index: the products of the low nibbles, those of the high nibbles, and the two gains. -/
def layer (xc : (⟨3, ![1, 128, 2048]⟩ : Shape).Idx → BitVec 8) (xs : (⟨3, ![1, 128, 256]⟩ : Shape).Idx → EReal)
    (xg : (⟨1, ![2]⟩ : Shape).Idx → EReal) (wc : (⟨2, ![2048, 14336]⟩ : Shape).Idx → BitVec 8)
    (ws : (⟨2, ![256, 14336]⟩ : Shape).Idx → EReal) (wg : (⟨1, ![1]⟩ : Shape).Idx → EReal)
    (i : Fin 128) (n : Fin 14336) : EReal :=
  (∑ b : Fin 2048, term xc xs wc ws i n b 0 + ∑ b : Fin 2048, term xc xs wc ws i n b 1) * xg (ix1 ⟨i.val / 64, by omega⟩) * wg (ix1 0)

/-- The products added trip by trip are the products added nibble by nibble. -/
theorem trips_eq (f : Fin 2048 → Fin 2 → EReal) (p : ℕ → EReal)
    (hp : ∀ u : Fin 16, p u.val = ∑ k : Fin 256, f ⟨128 * u.val + k.val / 2, by omega⟩ ⟨k.val % 2, by omega⟩) :
    ∑ u ∈ Finset.range 16, p u = ∑ b : Fin 2048, f b 0 + ∑ b : Fin 2048, f b 1 := by
  have e := sum_orders fun b q => if h : b < 2048 ∧ q < 2 then f ⟨b, h.1⟩ ⟨q, h.2⟩ else 0
  have e1 : ∀ q : Fin 2, ∑ b ∈ Finset.range 2048, (if h : b < 2048 ∧ q.val < 2 then f ⟨b, h.1⟩ ⟨q.val, h.2⟩ else 0) = ∑ b : Fin 2048, f b q := fun q => by
    rw [← Fin.sum_univ_eq_sum_range (fun b => if h : b < 2048 ∧ q.val < 2 then f ⟨b, h.1⟩ ⟨q.val, h.2⟩ else 0) 2048]
    exact Finset.sum_congr rfl fun b _ => dif_pos (show b.val < 2048 ∧ q.val < 2 from ⟨b.isLt, q.isLt⟩)
  rw [← e1 0, ← e1 1]
  refine Eq.trans ?_ e
  refine Finset.sum_congr rfl fun u hu => ?_
  have hu : u < 16 := Finset.mem_range.mp hu
  refine (hp ⟨u, hu⟩).trans ?_
  rw [← Fin.sum_univ_eq_sum_range (fun k => if h : 128 * u + k / 2 < 2048 ∧ k % 2 < 2 then f ⟨128 * u + k / 2, h.1⟩ ⟨k % 2, h.2⟩ else 0) 256]
  refine Finset.sum_congr rfl fun k _ => ?_
  rw [dif_pos (show 128 * u + k.val / 2 < 2048 ∧ k.val % 2 < 2 from ⟨by omega, by omega⟩)]

end Cert.KernelIdeal.Val
-- ==== Proof.Output.lean ====
module

public import proofs.«01_k».proof.Proof.Blocks
public import proofs.«01_k».proof.Proof.OutA
public import proofs.«01_k».proof.Proof.OutB
public import proofs.«01_k».proof.Proof.Sums

/-!
# What the kernel's array holds

The scratch holds the decoded x from grid point 0 on, so every point leaves the same function of its own blocks in its
output block; the blocks are put side by side.
-/

@[expose] public section

set_option maxHeartbeats 1000000

noncomputable section

namespace Cert.KernelIdeal.Val

open Idealize.ShloMosaic Idealize.ShloMosaic.TcCoe Idealize.SL.Sem Cert.KernelIdeal Cert.KernelIdeal.Gen Cert.KernelIdeal.Value

variable (m : (l : Loc nD τ sig) → Buf (Elt Ideal) l) (c : Dev nD)

/-- The decoded x, from the arguments. -/
def xIn : FVec Ideal S128x4096 .bf16 :=
  xArr (fun y => m ((c : Thread nD τ).loc main_arg0) (ix3 0 (y 0) (y 1))) (fun y => m ((c : Thread nD τ).loc main_arg1) (ix3 0 (y 0) (y 1)))

/-- The first point's blocks of x give the decoded x. -/
theorem xArr_blk (t : Fin cfg0.N) : xArr (iblk m c 2 t) (iblk m c 3 t) = xIn m c := by
  unfold xIn xArr
  funext y
  dsimp only
  exact congrArg₂ (fun a b : EReal => a * b) (congrArg (fun z => code z _) (blk2 m c t _ _)) (blk3 m c t _ _)

/-- The scratch after every point: the decoded x. -/
theorem scratch_eq : ∀ (n : ℕ) (h : n < cfg0.N), (outsAt0 m c n h).2 = xIn m c
  | 0, h => by
    rw [outsAt0_A m c ⟨0, h⟩ rfl]
    dsimp only
    rw [soutA, xArr_blk]
  | n + 1, h => by
    have hN : cfg0.N = 7 := N_0
    have hB : ¬(⟨n + 1, h⟩ : Fin cfg0.N).val % 7 = 0 := by dsimp only; omega
    rw [outsAt0_B m c ⟨n + 1, h⟩ hB]
    dsimp only
    unfold sout0_B_0
    exact scratch_eq n _

/-- The output block after every point. -/
theorem block_eq (n : ℕ) (h : n < cfg0.N) (y : S128x2048.Idx) :
    (outsAt0 m c n h).1 y = outVal (xIn m c) (iblk m c 4 ⟨n, h⟩) (scaleArr (iblk m c 5 ⟨n, h⟩)) (iblk m c 0 ⟨n, h⟩) (iblk m c 1 ⟨n, h⟩) y := by
  have hN : cfg0.N = 7 := N_0
  by_cases hA : n % 7 = 0
  · rw [outsAt0_A m c ⟨n, h⟩ hA]
    dsimp only
    rw [outA, xArr_blk]
  · rw [outsAt0_B m c ⟨n, h⟩ hA]
    dsimp only
    rw [outB]
    congr 1
    exact scratch_eq m c _ _

/-- The kernel's array at an index: the linear layer of the arguments. -/
theorem out_eq (i : Fin 128) (n : Fin 14336) :
    G6 m c (ix2 i n) = layer (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) i n := by
  have hN : cfg0.N = 7 := N_0
  have hpt : pt6Of (ix2 i n) = n.val / 2048 := by
    show 7 * (i.val / 128 - 0) + 1 * (n.val / 2048 - 0) = n.val / 2048
    omega
  have hlt : pt6Of (ix2 i n) < cfg0.N := by rw [hpt]; omega
  unfold G6
  rw [dif_pos hlt, ← outsAt0_sweep m c _ hlt, block_eq]
  generalize ht : (⟨pt6Of (ix2 i n), hlt⟩ : Fin cfg0.N) = t
  have htv : t.val = n.val / 2048 := by rw [← ht]; exact hpt
  have ht7 : t.val < 7 := by omega
  have e : loc6Of (ix2 i n) = ix2 i (⟨n.val % 2048, by omega⟩ : Fin 2048) := funext fun a => match a with
    | ⟨0, _⟩ => Fin.ext (Nat.mod_eq_of_lt i.isLt)
    | ⟨1, _⟩ => rfl
  rw [e]
  unfold outVal layer
  rw [blk1]
  refine congrArg₂ (fun a b : EReal => a * b) (congrArg₂ (fun a b : EReal => a * b) ?_ (blk0 m c t _)) rfl
  refine trips_eq (term (m ((c : Thread nD τ).loc main_arg0)) (m ((c : Thread nD τ).loc main_arg1)) (m ((c : Thread nD τ).loc main_arg3)) (m ((c : Thread nD τ).loc main_arg4)) i n) _ fun u => ?_
  unfold part
  rw [dif_pos u.isLt]
  refine Finset.sum_congr rfl fun k _ => ?_
  unfold term xIn xArr scaleArr
  dsimp only
  refine congrArg₂ (fun a b : EReal => a * b) (congrArg₂ (fun a b : EReal => a * b) ?_ ?_) (congrArg₂ (fun a b : EReal => a * b) ?_ ?_)
  · refine congrArg₂ (fun a b => code (m ((c : Thread nD τ).loc main_arg0) (ix3 0 i a)) b) (Fin.ext ?_) (Fin.ext ?_)
    · show (256 * u.val + k.val) / 2 = 128 * u.val + k.val / 2; omega
    · show (256 * u.val + k.val) % 2 = k.val % 2; omega
  · refine congrArg (fun a => m ((c : Thread nD τ).loc main_arg1) (ix3 0 i a)) (Fin.ext ?_)
    show (256 * u.val + k.val) / 16 = (128 * u.val + k.val / 2) / 8; omega
  · refine (congrArg (fun z => code z _) (blk4 m c t ht7 _ _)).trans ?_
    refine congrArg (fun a => code (m ((c : Thread nD τ).loc main_arg3) (ix2 _ a)) _) (Fin.ext ?_)
    show 2048 * t.val + n.val % 2048 = n.val; omega
  · refine (blk5 m c t ht7 _ _).trans ?_
    refine congrArg₂ (fun a b => m ((c : Thread nD τ).loc main_arg4) (ix2 a b)) (Fin.ext ?_) (Fin.ext ?_)
    · show 16 * u.val + k.val / 16 = (128 * u.val + k.val / 2) / 8; omega
    · show 2048 * t.val + (128 * ((n.val % 2048) / 128) + (n.val % 2048) % 128) = n.val; omega

end Cert.KernelIdeal.Val
-- ==== Proof.Ref.lean ====
module

public import proofs.«01_k».proof.Proof.Gen.ReferenceIdeal.Value
public import proofs.«01_k».proof.Proof.Gen.KernelIdeal.Frame
public import proofs.«01_k».proof.Proof.OutA
public import proofs.«01_k».proof.Proof.Sums
public import Idealize.ShloMosaic.Lib.Pointwise

/-!
# What the reference computes

The reference decodes each nibble to a bf16, multiplies by its block scale, takes the two matrix products (low nibbles,
high nibbles), adds them, and multiplies by the two gains. This module reads that at an index: it is the layer
`Cert.KernelIdeal.Val.layer`.
-/

@[expose] public section

set_option maxHeartbeats 1000000

noncomputable section

namespace Cert.ReferenceIdeal.Val

open Idealize.ShloMosaic Idealize.ShloMosaic.TcCoe Idealize.SL.Sem Cert.ReferenceIdeal Cert.ReferenceIdeal.Gen

variable {F : FTy → Type} [FloatOps F]

/-- The bf16 bit pattern of a four-bit float code, as the reference writes it: exponent field, mantissa bit, sign. -/
abbrev rbits {s : Shape} (n : IVec s 32) : IVec s 16 :=
  trunci 16 (ori (select (cmpi .eq (andi (shrui n (broadcast s 1#32)) (broadcast s 3#32)) (broadcast s 0#32))
    (muli (andi n (broadcast s 1#32)) (broadcast s 16128#32))
    (ori (shli (addi (andi (shrui n (broadcast s 1#32)) (broadcast s 3#32)) (broadcast s 126#32)) (broadcast s 7#32))
      (shli (andi n (broadcast s 1#32)) (broadcast s 6#32))))
    (shli (andi n (broadcast s 8#32)) (broadcast s 12#32))) natLt_16_32

/-- The low nibbles of bytes widened to words. -/
abbrev lowOf {s : Shape} (b : IVec s 8) : IVec s 32 := andi (extui 32 b natLt_8_32) (broadcast s 15#32)

/-- The high nibbles of bytes widened to words. -/
abbrev highOf {s : Shape} (b : IVec s 8) : IVec s 32 := shrui (extui 32 b natLt_8_32) (broadcast s 4#32)

/-- Decoded x times its block scales. -/
abbrev xMul (n : IVec S1x128x2048 32) (xs : Vec F S1x128x256 .fp8e4m3) : FVec F S1x128x2048 .bf16 :=
  shapeCast S1x128x2048 (mulf (shapeCast S1x128x256x8 (bitcastToFloat .bf16 (rbits n) : FVec F S1x128x2048 .bf16) shapeCasts_S1x128x2048_S1x128x256x8)
    (broadcastTo S1x128x256x8 (shapeCast S1x128x256x1 (extf .bf16 xs bitsLt_fp8e4m3_bf16 : FVec F S1x128x256 .bf16) shapeCasts_S1x128x256_S1x128x256x1)
      broadcasts_S1x128x256x1_S1x128x256x8)) shapeCasts_S1x128x256x8_S1x128x2048

/-- Decoded weights times their block scales. -/
abbrev wMul (n : IVec S2048x14336 32) (ws : Vec F S256x14336 .fp8e4m3) : FVec F S2048x14336 .bf16 :=
  shapeCast S2048x14336 (mulf (shapeCast S256x8x14336 (bitcastToFloat .bf16 (rbits n) : FVec F S2048x14336 .bf16) shapeCasts_S2048x14336_S256x8x14336)
    (broadcastTo S256x8x14336 (shapeCast S256x1x14336 (extf .bf16 ws bitsLt_fp8e4m3_bf16 : FVec F S256x14336 .bf16) shapeCasts_S256x14336_S256x1x14336)
      broadcasts_S256x1x14336_S256x8x14336)) shapeCasts_S256x8x14336_S2048x14336

/-- One matrix product. -/
abbrev prod (x : FVec F S1x128x2048 .bf16) (w : FVec F S2048x14336 .bf16) : FVec F S1x128x14336 .f32 :=
  matmul dot_S1x128x2048_S2048x14336_S1x128x14336_2_0_01_1_n_n none x w (constant S1x128x14336 .f32 0x00000000#32)

/-- The gains and the final rounding. -/
abbrev finish (y : FVec F S1x128x14336 .f32) (xg : Vec F S2 .f32) (wg : Vec F S1 .f32) : FVec F S128x14336 .bf16 :=
  shapeCast S128x14336 (truncf .bf16 (shapeCast S1x128x14336 (mulf (mulf (shapeCast S1x2x64x14336 y shapeCasts_S1x128x14336_S1x2x64x14336)
    (broadcastTo S1x2x64x14336 (shapeCast S1x2x1x1 xg shapeCasts_S2_S1x2x1x1) broadcasts_S1x2x1x1_S1x2x64x14336))
    (broadcast S1x2x64x14336 (extractAt ![0] wg inpos_S1_p0))) shapeCasts_S1x2x64x14336_S1x128x14336) bitsLt_bf16_f32 : FVec F S1x128x14336 .bf16)
    shapeCasts_S1x128x14336_S128x14336

/-- The reference's result, in those parts. -/
theorem ref_parts (xc : Vec Ideal S1x128x2048 .i8) (xs : Vec Ideal S1x128x256 .fp8e4m3) (xg : Vec Ideal S2 .f32) (wc : Vec Ideal S2048x14336 .i8)
    (ws : Vec Ideal S256x14336 .fp8e4m3) (wg : Vec Ideal S1 .f32) :
    Value.G6 xc xs xg wc ws wg
      = finish (addf (prod (xMul (lowOf xc) xs) (wMul (lowOf wc) ws)) (prod (xMul (highOf xc) xs) (wMul (highOf wc) ws))) xg wg := by
  have h3 : k0_pay18 xc xs xg wc ws wg = extui 32 wc natLt_8_32 := by
    show extui 32 (View.ld wc r0_3) natLt_8_32 = _
    exact congrArg (fun w => extui 32 w natLt_8_32) (Cert.KernelIdeal.Val.ld_whole (S := S2048x14336) (e := .i8) ![0, 0] (by decide) _ wc)
  unfold Value.G6
  rw [h3]
  unfold k0_pay1 k0_pay4 k0_pay5 k0_pay6 k0_pay7 k0_pay9 k0_pay10 k0_pay11 k0_pay15 k0_pay16 k0_pay17 k0_pay13 k0_pay14
  unfold k0_pay8 k0_pay12 k0_pay2
  with_reducible rfl

/-- The reference's pattern of a low nibble is the low half of the byte's word. -/
theorem low_bits : ∀ b : BitVec 8, rbits (s := S1) (lowOf fun _ => b) (ix1 0) = (Cert.KernelIdeal.Val.wordOf b).extractLsb' 0 16 := by
  decide +kernel

/-- The reference's pattern of a high nibble is the high half of the byte's word. -/
theorem high_bits : ∀ b : BitVec 8, rbits (s := S1) (highOf fun _ => b) (ix1 0) = (Cert.KernelIdeal.Val.wordOf b).extractLsb' 16 16 := by
  decide +kernel

/-- Decoded x at an index: the value of the nibble times the scale of its block. -/
theorem xMul_apply (n : IVec S1x128x2048 32) (xs : Vec Ideal S1x128x256 .fp8e4m3) (i : Fin 128) (b : Fin 2048) :
    xMul n xs (ix3 0 i b) = Ideal.ofBits .bf16 (rbits n (ix3 0 i b)) * xs (ix3 0 i ⟨b.val / 8, by omega⟩) := by
  pointwise

/-- A decoded weight at an index: the value of the nibble times the scale of its block. -/
theorem wMul_apply (n : IVec S2048x14336 32) (ws : Vec Ideal S256x14336 .fp8e4m3) (b : Fin 2048) (j : Fin 14336) :
    wMul n ws (ix2 b j) = Ideal.ofBits .bf16 (rbits n (ix2 b j)) * ws (ix2 ⟨b.val / 8, by omega⟩ j) := by
  pointwise

/-- A matrix product at an index. -/
theorem prod_apply (x : FVec Ideal S1x128x2048 .bf16) (w : FVec Ideal S2048x14336 .bf16) (i : Fin 128) (n : Fin 14336) :
    prod x w (ix3 0 i n) = ∑ b : Fin 2048, x (ix3 0 i b) * w (ix2 b n) := by
  pointwise

/-- The gains at an index. -/
theorem finish_apply (y : FVec Ideal S1x128x14336 .f32) (xg : Vec Ideal S2 .f32) (wg : Vec Ideal S1 .f32) (i : Fin 128) (n : Fin 14336) :
    finish y xg wg (ix2 i n) = y (ix3 0 i n) * xg (ix1 ⟨i.val / 64, by omega⟩) * wg (ix1 0) := by
  pointwise

/-- The reference's value of a low nibble is the code's. -/
theorem low_code {s : Shape} (c : IVec s 8) (y : s.Idx) :
    Ideal.ofBits .bf16 (rbits (lowOf c) y) = Cert.KernelIdeal.Val.code (c y) 0 :=
  congrArg (Ideal.ofBits .bf16) (low_bits (c y))

/-- The reference's value of a high nibble is the code's. -/
theorem high_code {s : Shape} (c : IVec s 8) (y : s.Idx) :
    Ideal.ofBits .bf16 (rbits (highOf c) y) = Cert.KernelIdeal.Val.code (c y) 1 :=
  congrArg (Ideal.ofBits .bf16) (high_bits (c y))

/-- The reference's result at an index is the layer. -/
theorem ref_eq (xc : Vec Ideal S1x128x2048 .i8) (xs : Vec Ideal S1x128x256 .fp8e4m3) (xg : Vec Ideal S2 .f32) (wc : Vec Ideal S2048x14336 .i8)
    (ws : Vec Ideal S256x14336 .fp8e4m3) (wg : Vec Ideal S1 .f32) (i : Fin 128) (n : Fin 14336) :
    Value.G6 xc xs xg wc ws wg (ix2 i n) = Cert.KernelIdeal.Val.layer xc xs xg wc ws wg i n := by
  have h0 : prod (xMul (lowOf xc) xs) (wMul (lowOf wc) ws) (ix3 0 i n)
      = ∑ b : Fin 2048, Cert.KernelIdeal.Val.term xc xs wc ws i n b 0 := by
    rw [prod_apply]
    refine Finset.sum_congr rfl fun b _ => ?_
    rw [xMul_apply, wMul_apply, low_code, low_code]; rfl
  have h1 : prod (xMul (highOf xc) xs) (wMul (highOf wc) ws) (ix3 0 i n)
      = ∑ b : Fin 2048, Cert.KernelIdeal.Val.term xc xs wc ws i n b 1 := by
    rw [prod_apply]
    refine Finset.sum_congr rfl fun b _ => ?_
    rw [xMul_apply, wMul_apply, high_code, high_code]; rfl
  rw [ref_parts, finish_apply]
  unfold Cert.KernelIdeal.Val.layer
  rw [← h0, ← h1]; rfl

end Cert.ReferenceIdeal.Val
-- ==== Proof.Equation.lean ====
module

public import proofs.«01_k».proof.Defs
public import proofs.«01_k».proof.Proof.Output
public import proofs.«01_k».proof.Proof.Ref

/-!
# The kernel and the reference compute the same array

Both results, index by index, are `Cert.KernelIdeal.Val.layer` of the arguments. Both runs are the generated ones.
-/

@[expose] public section

noncomputable section

namespace Cert.Proof

open Idealize.ShloMosaic Idealize.ShloMosaic.TcCoe Idealize.SL.Sem

/-- The kernel's result array is the reference's, of the same arguments. -/
theorem results_eq (m : (ℓ : Loc Cert.KernelIdeal.nD Cert.KernelIdeal.τ Cert.KernelIdeal.sig) → Buf (Elt Ideal) ℓ) (c : Dev Cert.KernelIdeal.nD) :
    Cert.KernelIdeal.Value.G6 m c = Cert.ReferenceIdeal.Value.G6 (F := Ideal)
      (m (c.tc.loc Cert.KernelIdeal.main_arg0)) (m (c.tc.loc Cert.KernelIdeal.main_arg1)) (m (c.tc.loc Cert.KernelIdeal.main_arg2))
      (m (c.tc.loc Cert.KernelIdeal.main_arg3)) (m (c.tc.loc Cert.KernelIdeal.main_arg4)) (m (c.tc.loc Cert.KernelIdeal.main_arg5)) := by
  funext y
  obtain ⟨i, n, rfl⟩ : ∃ (i : Fin 128) (n : Fin 14336), y = ix2 i n :=
    ⟨y 0, y 1, funext fun a => match a with | ⟨0, _⟩ => rfl | ⟨1, _⟩ => rfl⟩
  exact (Cert.KernelIdeal.Val.out_eq m c i n).trans (Cert.ReferenceIdeal.Val.ref_eq _ _ _ _ _ _ i n).symm

/-- From memories that agree on the arguments, both programs end with one result array and their arguments kept. -/
theorem algebraic : algebraic_KernelIdeal_ReferenceIdeal (hKernelIdeal := Cert.KernelIdeal.Gen.facts) (hReferenceIdeal := Cert.ReferenceIdeal.Gen.facts) := by
  intro m g m' g' _ hag
  refine ⟨Cert.KernelIdeal.Value.G6 m, Cert.KernelIdeal.Value.run m g, ?_⟩
  refine (θ_run _ _ _).mono (fun r h c => ⟨?_, (h c).2⟩) (Cert.ReferenceIdeal.Value.run (F := Ideal) m' g')
  obtain ⟨e0, e1, e2, e3, e4, e5⟩ := hag c
  refine (h c).1.trans ?_
  rw [results_eq]
  exact congr (congr (congr (congr (congr (congrArg (Cert.ReferenceIdeal.Value.G6 (F := Ideal)) e0) e1) e2) e3) e4) e5

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Equation
public import Idealize.ShloMosaic.Lib.Bf16PairInverse
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

/-- Each rewrite the ideal pass made is an equality: the library's statement at each pair of shapes. -/
theorem preserves : preserves_Kernel_KernelIdeal :=
  ⟨IdealRules.bf16_pair.bufferStatement _ _, IdealRules.bf16_pair.statement _ _, IdealRules.bf16_pair.packStatement _,
    IdealRules.bf16_pair.statement _ _, IdealRules.bf16_pair.statement _ _, IdealRules.bf16_pair.statement _ _⟩

/-- The five claims: the three frames are the generated ones, `preserves` the library's, `algebraic` Proof/Equation.lean's. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  preserves, algebraic⟩

end Cert.Proof

end
